-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_values_5)) (v2 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_values_5) = v1 c
          ∧ r.2.mem ((c.tc : Thread Cert.KernelIdeal.nD Cert.KernelIdeal.τ).loc Cert.KernelIdeal.main_v71) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_values_31) = v1 c
          ∧ r.2.mem ((c.tc : Thread Cert.ReferenceIdeal.nD Cert.ReferenceIdeal.τ).loc Cert.ReferenceIdeal.main_v185) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x81 : Shape := ⟨2, ![20000, 81]⟩
abbrev S20000x324 : Shape := ⟨2, ![20000, 324]⟩
abbrev S20000x4 : Shape := ⟨2, ![20000, 4]⟩
abbrev S20000x81x4 : Shape := ⟨3, ![20000, 81, 4]⟩
abbrev S20000x81x1 : Shape := ⟨3, ![20000, 81, 1]⟩
abbrev S20000x1 : Shape := ⟨2, ![20000, 1]⟩
abbrev S2000x81 : Shape := ⟨2, ![2000, 81]⟩
abbrev S2000x1 : Shape := ⟨2, ![2000, 1]⟩
abbrev S2000 : Shape := ⟨1, ![2000]⟩
abbrev S20000x80 : Shape := ⟨2, ![20000, 80]⟩
abbrev S80x20000 : Shape := ⟨2, ![80, 20000]⟩
abbrev S80x300 : Shape := ⟨2, ![80, 300]⟩
abbrev S_ : Shape := ⟨0, ![]⟩
abbrev S80x300x1 : Shape := ⟨3, ![80, 300, 1]⟩
abbrev S1 : Shape := ⟨1, ![1]⟩
abbrev S1x1x1 : Shape := ⟨3, ![1, 1, 1]⟩
abbrev S80x512 : Shape := ⟨2, ![80, 512]⟩
abbrev S80x1x512 : Shape := ⟨3, ![80, 1, 512]⟩
abbrev S80x512x1 : Shape := ⟨3, ![80, 512, 1]⟩
abbrev S1x1x512 : Shape := ⟨3, ![1, 1, 512]⟩
abbrev S1x512x1 : Shape := ⟨3, ![1, 512, 1]⟩
abbrev S1x512 : Shape := ⟨2, ![1, 512]⟩
abbrev S512x1 : Shape := ⟨2, ![512, 1]⟩
abbrev S512x512 : Shape := ⟨2, ![512, 512]⟩
abbrev S24000 : Shape := ⟨1, ![24000]⟩
abbrev S80x300x4 : Shape := ⟨3, ![80, 300, 4]⟩
abbrev S24000x4 : Shape := ⟨2, ![24000, 4]⟩
abbrev S80 : Shape := ⟨1, ![80]⟩
abbrev S80x1 : Shape := ⟨2, ![80, 1]⟩
abbrev S100 : Shape := ⟨1, ![100]⟩
abbrev S100x1 : Shape := ⟨2, ![100, 1]⟩
abbrev S100x4 : Shape := ⟨2, ![100, 4]⟩

abbrev nBuf : Space → Nat
  | .hbm => 182
  | .vmem => 48
  | .smem => 0
  | _ => 0

abbrev hbmTy0_0 (i : Nat) : BufTy := match i % 128 with
  | 0 => ⟨S20000x81, .f32⟩
  | 1 => ⟨S20000x324, .f32⟩
  | 2 => ⟨S20000x4, .f32⟩
  | 3 => ⟨S20000x81x4, .f32⟩
  | 4 => ⟨S20000x81x1, .f32⟩
  | 5 => ⟨S20000x81, .f32⟩
  | 6 => ⟨S20000x81x1, .f32⟩
  | 7 => ⟨S20000x81, .f32⟩
  | 8 => ⟨S20000x81x1, .f32⟩
  | 9 => ⟨S20000x81, .f32⟩
  | 10 => ⟨S20000x81x1, .f32⟩
  | 11 => ⟨S20000x81, .f32⟩
  | 12 => ⟨S20000x1, .f32⟩
  | 13 => ⟨S20000x1, .f32⟩
  | 14 => ⟨S20000x1, .f32⟩
  | 15 => ⟨S20000x1, .f32⟩
  | 16 => ⟨S20000x81, .f32⟩
  | 17 => ⟨S20000x81, .f32⟩
  | 18 => ⟨S20000x81, .f32⟩
  | 19 => ⟨S20000x81, .f32⟩
  | 20 => ⟨S20000x81, .f32⟩
  | 21 => ⟨S20000x80, .f32⟩
  | 22 => ⟨S80x20000, .f32⟩
  | 23 => ⟨S80x300, .f32⟩
  | 24 => ⟨S80x300, .i32⟩
  | 25 => ⟨S20000x80, .f32⟩
  | 26 => ⟨S80x20000, .f32⟩
  | 27 => ⟨S_, .i32⟩
  | 28 => ⟨S80x300, .i32⟩
  | 29 => ⟨S80x300, .i1⟩
  | 30 => ⟨S_, .i32⟩
  | 31 => ⟨S80x300, .i32⟩
  | 32 => ⟨S80x300, .i32⟩
  | 33 => ⟨S80x300, .i32⟩
  | 34 => ⟨S80x300x1, .i32⟩
  | 35 => ⟨S1, .i32⟩
  | 36 => ⟨S_, .i32⟩
  | 37 => ⟨S80x300x1, .i32⟩
  | 38 => ⟨S80x300x1, .i1⟩
  | 39 => ⟨S1x1x1, .i32⟩
  | 40 => ⟨S80x300x1, .i32⟩
  | 41 => ⟨S80x300x1, .i1⟩
  | 42 => ⟨S80x300x1, .i1⟩
  | 43 => ⟨S_, .i1⟩
  | 44 => ⟨S80x300, .i1⟩
  | 45 => ⟨S80x300, .f32⟩
  | 46 => ⟨S_, .f32⟩
  | 47 => ⟨S80x300, .f32⟩
  | 48 => ⟨S80x300, .f32⟩
  | 49 => ⟨S20000x80, .f32⟩
  | 50 => ⟨S80x20000, .f32⟩
  | 51 => ⟨S_, .i32⟩
  | 52 => ⟨S80x300, .i32⟩
  | 53 => ⟨S80x300, .i1⟩
  | 54 => ⟨S_, .i32⟩
  | 55 => ⟨S80x300, .i32⟩
  | 56 => ⟨S80x300, .i32⟩
  | 57 => ⟨S80x300, .i32⟩
  | 58 => ⟨S80x300x1, .i32⟩
  | 59 => ⟨S1, .i32⟩
  | 60 => ⟨S_, .i32⟩
  | 61 => ⟨S80x300x1, .i32⟩
  | 62 => ⟨S80x300x1, .i1⟩
  | 63 => ⟨S1x1x1, .i32⟩
  | 64 => ⟨S80x300x1, .i32⟩
  | 65 => ⟨S80x300x1, .i1⟩
  | 66 => ⟨S80x300x1, .i1⟩
  | 67 => ⟨S_, .i1⟩
  | 68 => ⟨S80x300, .i1⟩
  | 69 => ⟨S80x300, .f32⟩
  | 70 => ⟨S_, .f32⟩
  | 71 => ⟨S80x300, .f32⟩
  | 72 => ⟨S80x300, .f32⟩
  | 73 => ⟨S20000x80, .f32⟩
  | 74 => ⟨S80x20000, .f32⟩
  | 75 => ⟨S_, .i32⟩
  | 76 => ⟨S80x300, .i32⟩
  | 77 => ⟨S80x300, .i1⟩
  | 78 => ⟨S_, .i32⟩
  | 79 => ⟨S80x300, .i32⟩
  | 80 => ⟨S80x300, .i32⟩
  | 81 => ⟨S80x300, .i32⟩
  | 82 => ⟨S80x300x1, .i32⟩
  | 83 => ⟨S1, .i32⟩
  | 84 => ⟨S_, .i32⟩
  | 85 => ⟨S80x300x1, .i32⟩
  | 86 => ⟨S80x300x1, .i1⟩
  | 87 => ⟨S1x1x1, .i32⟩
  | 88 => ⟨S80x300x1, .i32⟩
  | 89 => ⟨S80x300x1, .i1⟩
  | 90 => ⟨S80x300x1, .i1⟩
  | 91 => ⟨S_, .i1⟩
  | 92 => ⟨S80x300, .i1⟩
  | 93 => ⟨S80x300, .f32⟩
  | 94 => ⟨S_, .f32⟩
  | 95 => ⟨S80x300, .f32⟩
  | 96 => ⟨S80x300, .f32⟩
  | 97 => ⟨S20000x80, .f32⟩
  | 98 => ⟨S80x20000, .f32⟩
  | 99 => ⟨S_, .i32⟩
  | 100 => ⟨S80x300, .i32⟩
  | 101 => ⟨S80x300, .i1⟩
  | 102 => ⟨S_, .i32⟩
  | 103 => ⟨S80x300, .i32⟩
  | 104 => ⟨S80x300, .i32⟩
  | 105 => ⟨S80x300, .i32⟩
  | 106 => ⟨S80x300x1, .i32⟩
  | 107 => ⟨S1, .i32⟩
  | 108 => ⟨S_, .i32⟩
  | 109 => ⟨S80x300x1, .i32⟩
  | 110 => ⟨S80x300x1, .i1⟩
  | 111 => ⟨S1x1x1, .i32⟩
  | 112 => ⟨S80x300x1, .i32⟩
  | 113 => ⟨S80x300x1, .i1⟩
  | 114 => ⟨S80x300x1, .i1⟩
  | 115 => ⟨S_, .i1⟩
  | 116 => ⟨S80x300, .i1⟩
  | 117 => ⟨S80x300, .f32⟩
  | 118 => ⟨S_, .f32⟩
  | 119 => ⟨S80x300, .f32⟩
  | 120 => ⟨S80x300, .f32⟩
  | 121 => ⟨S_, .i32⟩
  | 122 => ⟨S_, .f32⟩
  | 123 => ⟨S80x512, .f32⟩
  | 124 => ⟨S_, .i32⟩
  | 125 => ⟨S_, .f32⟩
  | 126 => ⟨S80x512, .f32⟩
  | 127 => ⟨S_, .i32⟩
  | _ => ⟨S20000x81, .f32⟩

abbrev hbmTy0_1 (i : Nat) : BufTy := match i % 128 with
  | 0 => ⟨S_, .f32⟩
  | 1 => ⟨S80x512, .f32⟩
  | 2 => ⟨S_, .i32⟩
  | 3 => ⟨S_, .f32⟩
  | 4 => ⟨S80x512, .f32⟩
  | 5 => ⟨S_, .i32⟩
  | 6 => ⟨S_, .f32⟩
  | 7 => ⟨S80x512, .f32⟩
  | 8 => ⟨S80x1x512, .f32⟩
  | 9 => ⟨S80x1x512, .f32⟩
  | 10 => ⟨S80x1x512, .f32⟩
  | 11 => ⟨S80x1x512, .f32⟩
  | 12 => ⟨S80x512x1, .f32⟩
  | 13 => ⟨S80x512x1, .f32⟩
  | 14 => ⟨S80x512x1, .f32⟩
  | 15 => ⟨S80x512x1, .f32⟩
  | 16 => ⟨S80x1x512, .f32⟩
  | 17 => ⟨S80x1x512, .f32⟩
  | 18 => ⟨S80x512, .f32⟩
  | 19 => ⟨S80x300, .f32⟩
  | 20 => ⟨S24000, .f32⟩
  | 21 => ⟨S80x300x1, .f32⟩
  | 22 => ⟨S80x300x1, .f32⟩
  | 23 => ⟨S80x300x1, .f32⟩
  | 24 => ⟨S80x300x1, .f32⟩
  | 25 => ⟨S80x300x4, .f32⟩
  | 26 => ⟨S24000x4, .f32⟩
  | 27 => ⟨S80, .i32⟩
  | 28 => ⟨S_, .i32⟩
  | 29 => ⟨S80, .i32⟩
  | 30 => ⟨S80, .i32⟩
  | 31 => ⟨S80x1, .i32⟩
  | 32 => ⟨S80x300, .i32⟩
  | 33 => ⟨S24000, .i32⟩
  | 34 => ⟨S100, .f32⟩
  | 35 => ⟨S100, .i32⟩
  | 36 => ⟨S_, .i32⟩
  | 37 => ⟨S100, .i32⟩
  | 38 => ⟨S100, .i1⟩
  | 39 => ⟨S_, .i32⟩
  | 40 => ⟨S100, .i32⟩
  | 41 => ⟨S100, .i32⟩
  | 42 => ⟨S100, .i32⟩
  | 43 => ⟨S100x1, .i32⟩
  | 44 => ⟨S100x4, .f32⟩
  | 45 => ⟨S_, .i32⟩
  | 46 => ⟨S100, .i32⟩
  | 47 => ⟨S100, .i1⟩
  | 48 => ⟨S_, .i32⟩
  | 49 => ⟨S100, .i32⟩
  | 50 => ⟨S100, .i32⟩
  | 51 => ⟨S100, .i32⟩
  | 52 => ⟨S100x1, .i32⟩
  | 53 => ⟨S100, .i32⟩
  | _ => ⟨S20000x81, .f32⟩

abbrev hbmTy (i : Nat) : BufTy := match i / 128 with
  | 0 => hbmTy0_0 i
  | 1 => hbmTy0_1 i
  | _ => ⟨S20000x81, .f32⟩

abbrev bufTy : (tb : Table) → Fin (tcTables nBuf tb) → BufTy
  | .hbm, ⟨i, _⟩ => hbmTy i
  | .local _ .vmem, ⟨0, _⟩ => ⟨S2000x81, .f32⟩
  | .local _ .vmem, ⟨1, _⟩ => ⟨S2000x81, .f32⟩
  | .local _ .vmem, ⟨2, _⟩ => ⟨S2000x81, .f32⟩
  | .local _ .vmem, ⟨3, _⟩ => ⟨S2000x81, .f32⟩
  | .local _ .vmem, ⟨4, _⟩ => ⟨S2000x81, .f32⟩
  | .local _ .vmem, ⟨5, _⟩ => ⟨S2000x81, .f32⟩
  | .local _ .vmem, ⟨6, _⟩ => ⟨S2000x81, .f32⟩
  | .local _ .vmem, ⟨7, _⟩ => ⟨S2000x81, .f32⟩
  | .local _ .vmem, ⟨8, _⟩ => ⟨S2000x81, .f32⟩
  | .local _ .vmem, ⟨9, _⟩ => ⟨S2000x81, .f32⟩
  | .local _ .vmem, ⟨10, _⟩ => ⟨S2000x1, .f32⟩
  | .local _ .vmem, ⟨11, _⟩ => ⟨S2000x1, .f32⟩
  | .local _ .vmem, ⟨12, _⟩ => ⟨S2000x1, .f32⟩
  | .local _ .vmem, ⟨13, _⟩ => ⟨S2000x1, .f32⟩
  | .local _ .vmem, ⟨14, _⟩ => ⟨S2000x1, .f32⟩
  | .local _ .vmem, ⟨15, _⟩ => ⟨S2000x1, .f32⟩
  | .local _ .vmem, ⟨16, _⟩ => ⟨S2000x1, .f32⟩
  | .local _ .vmem, ⟨17, _⟩ => ⟨S2000x1, .f32⟩
  | .local _ .vmem, ⟨18, _⟩ => ⟨S2000x81, .f32⟩
  | .local _ .vmem, ⟨19, _⟩ => ⟨S2000x81, .f32⟩
  | .local _ .vmem, ⟨20, _⟩ => ⟨S2000x81, .f32⟩
  | .local _ .vmem, ⟨21, _⟩ => ⟨S2000x81, .f32⟩
  | .local _ .vmem, ⟨22, _⟩ => ⟨S2000x81, .f32⟩
  | .local _ .vmem, ⟨23, _⟩ => ⟨S2000x81, .f32⟩
  | .local _ .vmem, ⟨24, _⟩ => ⟨S2000x81, .f32⟩
  | .local _ .vmem, ⟨25, _⟩ => ⟨S2000x81, .f32⟩
  | .local _ .vmem, ⟨26, _⟩ => ⟨S2000x81, .f32⟩
  | .local _ .vmem, ⟨27, _⟩ => ⟨S2000x81, .f32⟩
  | .local _ .vmem, ⟨28, _⟩ => ⟨S1x1x512, .f32⟩
  | .local _ .vmem, ⟨29, _⟩ => ⟨S1x1x512, .f32⟩
  | .local _ .vmem, ⟨30, _⟩ => ⟨S1x1x512, .f32⟩
  | .local _ .vmem, ⟨31, _⟩ => ⟨S1x1x512, .f32⟩
  | .local _ .vmem, ⟨32, _⟩ => ⟨S1x1x512, .f32⟩
  | .local _ .vmem, ⟨33, _⟩ => ⟨S1x1x512, .f32⟩
  | .local _ .vmem, ⟨34, _⟩ => ⟨S1x1x512, .f32⟩
  | .local _ .vmem, ⟨35, _⟩ => ⟨S1x1x512, .f32⟩
  | .local _ .vmem, ⟨36, _⟩ => ⟨S1x512x1, .f32⟩
  | .local _ .vmem, ⟨37, _⟩ => ⟨S1x512x1, .f32⟩
  | .local _ .vmem, ⟨38, _⟩ => ⟨S1x512x1, .f32⟩
  | .local _ .vmem, ⟨39, _⟩ => ⟨S1x512x1, .f32⟩
  | .local _ .vmem, ⟨40, _⟩ => ⟨S1x512x1, .f32⟩
  | .local _ .vmem, ⟨41, _⟩ => ⟨S1x512x1, .f32⟩
  | .local _ .vmem, ⟨42, _⟩ => ⟨S1x512x1, .f32⟩
  | .local _ .vmem, ⟨43, _⟩ => ⟨S1x512x1, .f32⟩
  | .local _ .vmem, ⟨44, _⟩ => ⟨S1x1x512, .f32⟩
  | .local _ .vmem, ⟨45, _⟩ => ⟨S1x1x512, .f32⟩
  | .local _ .vmem, ⟨46, _⟩ => ⟨S1x1x512, .f32⟩
  | .local _ .vmem, ⟨47, _⟩ => ⟨S1x1x512, .f32⟩
  | _, _ => ⟨S20000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13_0 : Ref sig .tc := ⟨.hbm, 16, rfl⟩
abbrev main_v13_1 : Ref sig .tc := ⟨.hbm, 17, rfl⟩
abbrev main_v13_2 : Ref sig .tc := ⟨.hbm, 18, rfl⟩
abbrev main_v13_3 : Ref sig .tc := ⟨.hbm, 19, rfl⟩
abbrev main_v13_4 : Ref sig .tc := ⟨.hbm, 20, rfl⟩
abbrev main_v14 : Ref sig .tc := ⟨.hbm, 21, rfl⟩
abbrev main_v15 : Ref sig .tc := ⟨.hbm, 22, rfl⟩
abbrev main_values : Ref sig .tc := ⟨.hbm, 23, rfl⟩
abbrev main_indices : Ref sig .tc := ⟨.hbm, 24, rfl⟩
abbrev main_v16 : Ref sig .tc := ⟨.hbm, 25, rfl⟩
abbrev main_v17 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_cst : Ref sig .tc := ⟨.hbm, 46, rfl⟩
abbrev main_call0_v14 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_cst : Ref sig .tc := ⟨.hbm, 70, rfl⟩
abbrev main_call1_v14 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_cst : Ref sig .tc := ⟨.hbm, 94, rfl⟩
abbrev main_call2_v14 : Ref sig .tc := ⟨.hbm, 95, rfl⟩
abbrev main_v24 : Ref sig .tc := ⟨.hbm, 96, rfl⟩
abbrev main_v25 : Ref sig .tc := ⟨.hbm, 97, rfl⟩
abbrev main_v26 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_cst : Ref sig .tc := ⟨.hbm, 118, rfl⟩
abbrev main_call3_v14 : Ref sig .tc := ⟨.hbm, 119, rfl⟩
abbrev main_v27 : Ref sig .tc := ⟨.hbm, 120, rfl⟩
abbrev main_c : Ref sig .tc := ⟨.hbm, 121, rfl⟩
abbrev main_call4_v0 : Ref sig .tc := ⟨.hbm, 122, rfl⟩
abbrev main_v28 : Ref sig .tc := ⟨.hbm, 123, rfl⟩
abbrev main_c_0 : Ref sig .tc := ⟨.hbm, 124, rfl⟩
abbrev main_call5_v0 : Ref sig .tc := ⟨.hbm, 125, rfl⟩
abbrev main_v29 : Ref sig .tc := ⟨.hbm, 126, rfl⟩
abbrev main_c_1 : Ref sig .tc := ⟨.hbm, 127, rfl⟩
abbrev main_call6_v0 : Ref sig .tc := ⟨.hbm, 128, rfl⟩
abbrev main_v30 : Ref sig .tc := ⟨.hbm, 129, rfl⟩
abbrev main_c_2 : Ref sig .tc := ⟨.hbm, 130, rfl⟩
abbrev main_call7_v0 : Ref sig .tc := ⟨.hbm, 131, rfl⟩
abbrev main_v31 : Ref sig .tc := ⟨.hbm, 132, rfl⟩
abbrev main_c_3 : Ref sig .tc := ⟨.hbm, 133, rfl⟩
abbrev main_call8_v0 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩
abbrev main_v37 : Ref sig .tc := ⟨.hbm, 140, rfl⟩
abbrev main_v38 : Ref sig .tc := ⟨.hbm, 141, rfl⟩
abbrev main_v39 : Ref sig .tc := ⟨.hbm, 142, rfl⟩
abbrev main_v40 : Ref sig .tc := ⟨.hbm, 143, rfl⟩
abbrev main_v41 : Ref sig .tc := ⟨.hbm, 144, rfl⟩
abbrev main_v42 : Ref sig .tc := ⟨.hbm, 145, rfl⟩
abbrev main_v43 : Ref sig .tc := ⟨.hbm, 146, rfl⟩
abbrev main_v44 : Ref sig .tc := ⟨.hbm, 147, rfl⟩
abbrev main_v45 : Ref sig .tc := ⟨.hbm, 148, rfl⟩
abbrev main_v46 : Ref sig .tc := ⟨.hbm, 149, rfl⟩
abbrev main_v47 : Ref sig .tc := ⟨.hbm, 150, rfl⟩
abbrev main_v48 : Ref sig .tc := ⟨.hbm, 151, rfl⟩
abbrev main_v49 : Ref sig .tc := ⟨.hbm, 152, rfl⟩
abbrev main_v50 : Ref sig .tc := ⟨.hbm, 153, rfl⟩
abbrev main_v51 : Ref sig .tc := ⟨.hbm, 154, rfl⟩
abbrev main_v52 : Ref sig .tc := ⟨.hbm, 155, rfl⟩
abbrev main_c_4 : Ref sig .tc := ⟨.hbm, 156, rfl⟩
abbrev main_v53 : Ref sig .tc := ⟨.hbm, 157, rfl⟩
abbrev main_v54 : Ref sig .tc := ⟨.hbm, 158, rfl⟩
abbrev main_v55 : Ref sig .tc := ⟨.hbm, 159, rfl⟩
abbrev main_v56 : Ref sig .tc := ⟨.hbm, 160, rfl⟩
abbrev main_v57 : Ref sig .tc := ⟨.hbm, 161, rfl⟩
abbrev main_values_5 : Ref sig .tc := ⟨.hbm, 162, rfl⟩
abbrev main_indices_6 : Ref sig .tc := ⟨.hbm, 163, rfl⟩
abbrev main_c_7 : Ref sig .tc := ⟨.hbm, 164, rfl⟩
abbrev main_v58 : Ref sig .tc := ⟨.hbm, 165, rfl⟩
abbrev main_v59 : Ref sig .tc := ⟨.hbm, 166, rfl⟩
abbrev main_c_8 : Ref sig .tc := ⟨.hbm, 167, rfl⟩
abbrev main_v60 : Ref sig .tc := ⟨.hbm, 168, rfl⟩
abbrev main_v61 : Ref sig .tc := ⟨.hbm, 169, rfl⟩
abbrev main_v62 : Ref sig .tc := ⟨.hbm, 170, rfl⟩
abbrev main_v63 : Ref sig .tc := ⟨.hbm, 171, rfl⟩
abbrev main_v64 : Ref sig .tc := ⟨.hbm, 172, rfl⟩
abbrev main_c_9 : Ref sig .tc := ⟨.hbm, 173, rfl⟩
abbrev main_v65 : Ref sig .tc := ⟨.hbm, 174, rfl⟩
abbrev main_v66 : Ref sig .tc := ⟨.hbm, 175, rfl⟩
abbrev main_c_10 : Ref sig .tc := ⟨.hbm, 176, rfl⟩
abbrev main_v67 : Ref sig .tc := ⟨.hbm, 177, rfl⟩
abbrev main_v68 : Ref sig .tc := ⟨.hbm, 178, rfl⟩
abbrev main_v69 : Ref sig .tc := ⟨.hbm, 179, rfl⟩
abbrev main_v70 : Ref sig .tc := ⟨.hbm, 180, rfl⟩
abbrev main_v71 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg1_1 : Ref sig .tc := ⟨.vmem, 31, rfl⟩
abbrev cc1_stg2_0 : Ref sig .tc := ⟨.vmem, 32, rfl⟩
abbrev cc1_stg2_1 : Ref sig .tc := ⟨.vmem, 33, rfl⟩
abbrev cc1_stg3_0 : Ref sig .tc := ⟨.vmem, 34, rfl⟩
abbrev cc1_stg3_1 : Ref sig .tc := ⟨.vmem, 35, rfl⟩
abbrev cc1_stg4_0 : Ref sig .tc := ⟨.vmem, 36, rfl⟩
abbrev cc1_stg4_1 : Ref sig .tc := ⟨.vmem, 37, rfl⟩
abbrev cc1_stg5_0 : Ref sig .tc := ⟨.vmem, 38, rfl⟩
abbrev cc1_stg5_1 : Ref sig .tc := ⟨.vmem, 39, rfl⟩
abbrev cc1_stg6_0 : Ref sig .tc := ⟨.vmem, 40, rfl⟩
abbrev cc1_stg6_1 : Ref sig .tc := ⟨.vmem, 41, rfl⟩
abbrev cc1_stg7_0 : Ref sig .tc := ⟨.vmem, 42, rfl⟩
abbrev cc1_stg7_1 : Ref sig .tc := ⟨.vmem, 43, rfl⟩
abbrev cc1_stg8_0 : Ref sig .tc := ⟨.vmem, 44, rfl⟩
abbrev cc1_stg8_1 : Ref sig .tc := ⟨.vmem, 45, rfl⟩
abbrev cc1_stg9_0 : Ref sig .tc := ⟨.vmem, 46, rfl⟩
abbrev cc1_stg9_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc1_sem0_0 : DmaSem sig := 28
abbrev cc1_sem0_1 : DmaSem sig := 29
abbrev cc1_sem1_0 : DmaSem sig := 30
abbrev cc1_sem1_1 : DmaSem sig := 31
abbrev cc1_sem2_0 : DmaSem sig := 32
abbrev cc1_sem2_1 : DmaSem sig := 33
abbrev cc1_sem3_0 : DmaSem sig := 34
abbrev cc1_sem3_1 : DmaSem sig := 35
abbrev cc1_sem4_0 : DmaSem sig := 36
abbrev cc1_sem4_1 : DmaSem sig := 37
abbrev cc1_sem5_0 : DmaSem sig := 38
abbrev cc1_sem5_1 : DmaSem sig := 39
abbrev cc1_sem6_0 : DmaSem sig := 40
abbrev cc1_sem6_1 : DmaSem sig := 41
abbrev cc1_sem7_0 : DmaSem sig := 42
abbrev cc1_sem7_1 : DmaSem sig := 43
abbrev cc1_sem8_0 : DmaSem sig := 44
abbrev cc1_sem8_1 : DmaSem sig := 45
abbrev cc1_sem9_0 : DmaSem sig := 46
abbrev cc1_sem9_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x81 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x81 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x81 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x81 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x81 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x81 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x81 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x81 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x81 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![80], ![false]⟩

@[reducible] def k1_t1_loop : Scf.Loop 32 :=
  let c0_i32 : BitVec 32 := 0#32
  let c300_i32 : BitVec 32 := 300#32
  let v68 : BitVec 32 := Scalar.addi c0_i32 c300_i32
  let c1_i32 : BitVec 32 := 1#32
  ⟨c0_i32, v68, c1_i32⟩
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S20000x81 : Shape := ⟨2, ![20000, 81]⟩
abbrev S20000x324 : Shape := ⟨2, ![20000, 324]⟩
abbrev S20000x4 : Shape := ⟨2, ![20000, 4]⟩
abbrev S_ : Shape := ⟨0, ![]⟩
abbrev S20000 : Shape := ⟨1, ![20000]⟩
abbrev S20000x1 : Shape := ⟨2, ![20000, 1]⟩
abbrev S20000x81x4 : Shape := ⟨3, ![20000, 81, 4]⟩
abbrev S20000x81x1 : Shape := ⟨3, ![20000, 81, 1]⟩
abbrev S20000x80x4 : Shape := ⟨3, ![20000, 80, 4]⟩
abbrev S80x20000x4 : Shape := ⟨3, ![80, 20000, 4]⟩
abbrev S20000x80 : Shape := ⟨2, ![20000, 80]⟩
abbrev S80x20000 : Shape := ⟨2, ![80, 20000]⟩
abbrev S80x300 : Shape := ⟨2, ![80, 300]⟩
abbrev S80x300x1 : Shape := ⟨3, ![80, 300, 1]⟩
abbrev S1 : Shape := ⟨1, ![1]⟩
abbrev S1x1x1 : Shape := ⟨3, ![1, 1, 1]⟩
abbrev S80x300x4 : Shape := ⟨3, ![80, 300, 4]⟩
abbrev S80x300x2 : Shape := ⟨3, ![80, 300, 2]⟩
abbrev S80x300x1x2 : Shape := ⟨4, ![80, 300, 1, 2]⟩
abbrev S80x1x300x2 : Shape := ⟨4, ![80, 1, 300, 2]⟩
abbrev S80x300x300x2 : Shape := ⟨4, ![80, 300, 300, 2]⟩
abbrev S80x300x300x1 : Shape := ⟨4, ![80, 300, 300, 1]⟩
abbrev S80x300x300 : Shape := ⟨3, ![80, 300, 300]⟩
abbrev S80x1x300 : Shape := ⟨3, ![80, 1, 300]⟩
abbrev S300 : Shape := ⟨1, ![300]⟩
abbrev S80x1 : Shape := ⟨2, ![80, 1]⟩
abbrev S1x300 : Shape := ⟨2, ![1, 300]⟩
abbrev S80 : Shape := ⟨1, ![80]⟩
abbrev S24000x4 : Shape := ⟨2, ![24000, 4]⟩
abbrev S24000 : Shape := ⟨1, ![24000]⟩
abbrev S100 : Shape := ⟨1, ![100]⟩
abbrev S100x1 : Shape := ⟨2, ![100, 1]⟩
abbrev S100x4 : Shape := ⟨2, ![100, 4]⟩

abbrev nBuf : Space → Nat
  | .hbm => 317
  | .vmem => 0
  | .smem => 0
  | _ => 0

abbrev hbmTy0_0 (i : Nat) : BufTy := match i % 128 with
  | 0 => ⟨S20000x81, .f32⟩
  | 1 => ⟨S20000x324, .f32⟩
  | 2 => ⟨S20000x4, .f32⟩
  | 3 => ⟨S_, .f32⟩
  | 4 => ⟨S20000, .f32⟩
  | 5 => ⟨S_, .f32⟩
  | 6 => ⟨S20000, .f32⟩
  | 7 => ⟨S20000, .f32⟩
  | 8 => ⟨S20000x1, .f32⟩
  | 9 => ⟨S20000x81, .f32⟩
  | 10 => ⟨S20000x81, .f32⟩
  | 11 => ⟨S20000x81, .f32⟩
  | 12 => ⟨S_, .f32⟩
  | 13 => ⟨S20000, .f32⟩
  | 14 => ⟨S20000x1, .f32⟩
  | 15 => ⟨S20000x81, .f32⟩
  | 16 => ⟨S20000x81, .f32⟩
  | 17 => ⟨S20000x81x4, .f32⟩
  | 18 => ⟨S20000x1, .f32⟩
  | 19 => ⟨S20000, .f32⟩
  | 20 => ⟨S20000x1, .f32⟩
  | 21 => ⟨S20000, .f32⟩
  | 22 => ⟨S20000, .f32⟩
  | 23 => ⟨S20000x1, .f32⟩
  | 24 => ⟨S20000, .f32⟩
  | 25 => ⟨S20000x1, .f32⟩
  | 26 => ⟨S20000, .f32⟩
  | 27 => ⟨S20000, .f32⟩
  | 28 => ⟨S20000x1, .f32⟩
  | 29 => ⟨S20000, .f32⟩
  | 30 => ⟨S_, .f32⟩
  | 31 => ⟨S20000, .f32⟩
  | 32 => ⟨S20000, .f32⟩
  | 33 => ⟨S20000, .f32⟩
  | 34 => ⟨S20000x1, .f32⟩
  | 35 => ⟨S20000, .f32⟩
  | 36 => ⟨S_, .f32⟩
  | 37 => ⟨S20000, .f32⟩
  | 38 => ⟨S20000, .f32⟩
  | 39 => ⟨S20000, .f32⟩
  | 40 => ⟨S20000x81x1, .f32⟩
  | 41 => ⟨S20000x81, .f32⟩
  | 42 => ⟨S_, .f32⟩
  | 43 => ⟨S20000x81, .f32⟩
  | 44 => ⟨S20000x81, .f32⟩
  | 45 => ⟨S20000x81x1, .f32⟩
  | 46 => ⟨S20000x81, .f32⟩
  | 47 => ⟨S_, .f32⟩
  | 48 => ⟨S20000x81, .f32⟩
  | 49 => ⟨S20000x81, .f32⟩
  | 50 => ⟨S20000x81x1, .f32⟩
  | 51 => ⟨S20000x81, .f32⟩
  | 52 => ⟨S_, .f32⟩
  | 53 => ⟨S20000x81, .f32⟩
  | 54 => ⟨S20000x81, .f32⟩
  | 55 => ⟨S_, .f32⟩
  | 56 => ⟨S20000x81, .f32⟩
  | 57 => ⟨S20000x81, .f32⟩
  | 58 => ⟨S20000x81x1, .f32⟩
  | 59 => ⟨S20000x81, .f32⟩
  | 60 => ⟨S_, .f32⟩
  | 61 => ⟨S20000x81, .f32⟩
  | 62 => ⟨S20000x81, .f32⟩
  | 63 => ⟨S_, .f32⟩
  | 64 => ⟨S20000x81, .f32⟩
  | 65 => ⟨S20000x81, .f32⟩
  | 66 => ⟨S20000x1, .f32⟩
  | 67 => ⟨S20000x81, .f32⟩
  | 68 => ⟨S20000x81, .f32⟩
  | 69 => ⟨S20000x1, .f32⟩
  | 70 => ⟨S20000x81, .f32⟩
  | 71 => ⟨S20000x81, .f32⟩
  | 72 => ⟨S20000x1, .f32⟩
  | 73 => ⟨S20000x81, .f32⟩
  | 74 => ⟨S20000x81, .f32⟩
  | 75 => ⟨S20000x1, .f32⟩
  | 76 => ⟨S20000x81, .f32⟩
  | 77 => ⟨S20000x81, .f32⟩
  | 78 => ⟨S20000x81, .f32⟩
  | 79 => ⟨S20000x1, .f32⟩
  | 80 => ⟨S20000x81, .f32⟩
  | 81 => ⟨S20000x81, .f32⟩
  | 82 => ⟨S20000x81, .f32⟩
  | 83 => ⟨S20000x1, .f32⟩
  | 84 => ⟨S20000x81, .f32⟩
  | 85 => ⟨S20000x81, .f32⟩
  | 86 => ⟨S_, .f32⟩
  | 87 => ⟨S20000x81, .f32⟩
  | 88 => ⟨S20000x81, .f32⟩
  | 89 => ⟨S20000x81, .f32⟩
  | 90 => ⟨S_, .f32⟩
  | 91 => ⟨S20000x81, .f32⟩
  | 92 => ⟨S20000x81, .f32⟩
  | 93 => ⟨S20000x81, .f32⟩
  | 94 => ⟨S_, .f32⟩
  | 95 => ⟨S20000x81, .f32⟩
  | 96 => ⟨S20000x81, .f32⟩
  | 97 => ⟨S20000x81, .f32⟩
  | 98 => ⟨S_, .f32⟩
  | 99 => ⟨S20000x81, .f32⟩
  | 100 => ⟨S20000x81, .f32⟩
  | 101 => ⟨S20000x81, .f32⟩
  | 102 => ⟨S20000x81x1, .f32⟩
  | 103 => ⟨S20000x81x1, .f32⟩
  | 104 => ⟨S20000x81x1, .f32⟩
  | 105 => ⟨S20000x81x1, .f32⟩
  | 106 => ⟨S20000x81x4, .f32⟩
  | 107 => ⟨S20000x81x1, .f32⟩
  | 108 => ⟨S20000x81, .f32⟩
  | 109 => ⟨S_, .f32⟩
  | 110 => ⟨S_, .f32⟩
  | 111 => ⟨S_, .f32⟩
  | 112 => ⟨S20000x81, .f32⟩
  | 113 => ⟨S20000x81, .f32⟩
  | 114 => ⟨S_, .f32⟩
  | 115 => ⟨S20000x81, .f32⟩
  | 116 => ⟨S20000x81, .f32⟩
  | 117 => ⟨S20000x81x1, .f32⟩
  | 118 => ⟨S20000x81, .f32⟩
  | 119 => ⟨S_, .f32⟩
  | 120 => ⟨S_, .f32⟩
  | 121 => ⟨S_, .f32⟩
  | 122 => ⟨S20000x81, .f32⟩
  | 123 => ⟨S20000x81, .f32⟩
  | 124 => ⟨S_, .f32⟩
  | 125 => ⟨S20000x81, .f32⟩
  | 126 => ⟨S20000x81, .f32⟩
  | 127 => ⟨S20000x81x1, .f32⟩
  | _ => ⟨S20000x81, .f32⟩

abbrev hbmTy0_1 (i : Nat) : BufTy := match i % 128 with
  | 0 => ⟨S20000x81, .f32⟩
  | 1 => ⟨S_, .f32⟩
  | 2 => ⟨S_, .f32⟩
  | 3 => ⟨S_, .f32⟩
  | 4 => ⟨S20000x81, .f32⟩
  | 5 => ⟨S20000x81, .f32⟩
  | 6 => ⟨S_, .f32⟩
  | 7 => ⟨S20000x81, .f32⟩
  | 8 => ⟨S20000x81, .f32⟩
  | 9 => ⟨S20000x81x1, .f32⟩
  | 10 => ⟨S20000x81, .f32⟩
  | 11 => ⟨S_, .f32⟩
  | 12 => ⟨S_, .f32⟩
  | 13 => ⟨S_, .f32⟩
  | 14 => ⟨S20000x81, .f32⟩
  | 15 => ⟨S20000x81, .f32⟩
  | 16 => ⟨S_, .f32⟩
  | 17 => ⟨S20000x81, .f32⟩
  | 18 => ⟨S20000x81, .f32⟩
  | 19 => ⟨S20000x81x1, .f32⟩
  | 20 => ⟨S20000x81x1, .f32⟩
  | 21 => ⟨S20000x81x1, .f32⟩
  | 22 => ⟨S20000x81x1, .f32⟩
  | 23 => ⟨S20000x81x4, .f32⟩
  | 24 => ⟨S20000x80x4, .f32⟩
  | 25 => ⟨S80x20000x4, .f32⟩
  | 26 => ⟨S20000x80, .f32⟩
  | 27 => ⟨S80x20000, .f32⟩
  | 28 => ⟨S80x300, .f32⟩
  | 29 => ⟨S80x300, .i32⟩
  | 30 => ⟨S80x300x1, .i32⟩
  | 31 => ⟨S_, .i32⟩
  | 32 => ⟨S80x300x1, .i32⟩
  | 33 => ⟨S80x300x1, .i1⟩
  | 34 => ⟨S_, .i32⟩
  | 35 => ⟨S80x300x1, .i32⟩
  | 36 => ⟨S80x300x1, .i32⟩
  | 37 => ⟨S80x300x1, .i32⟩
  | 38 => ⟨S1, .i32⟩
  | 39 => ⟨S_, .i32⟩
  | 40 => ⟨S80x300x1, .i32⟩
  | 41 => ⟨S80x300x1, .i1⟩
  | 42 => ⟨S1x1x1, .i32⟩
  | 43 => ⟨S80x300x1, .i32⟩
  | 44 => ⟨S80x300x1, .i1⟩
  | 45 => ⟨S80x300x1, .i1⟩
  | 46 => ⟨S_, .i1⟩
  | 47 => ⟨S80x300, .i1⟩
  | 48 => ⟨S80x300x4, .f32⟩
  | 49 => ⟨S80x300x4, .i1⟩
  | 50 => ⟨S_, .f32⟩
  | 51 => ⟨S80x300x4, .f32⟩
  | 52 => ⟨S80x300x4, .f32⟩
  | 53 => ⟨S_, .f32⟩
  | 54 => ⟨S80x300, .f32⟩
  | 55 => ⟨S80x300, .i1⟩
  | 56 => ⟨S80x300x1, .f32⟩
  | 57 => ⟨S80x300, .f32⟩
  | 58 => ⟨S80x300x1, .f32⟩
  | 59 => ⟨S80x300, .f32⟩
  | 60 => ⟨S80x300, .f32⟩
  | 61 => ⟨S_, .f32⟩
  | 62 => ⟨S80x300, .f32⟩
  | 63 => ⟨S80x300, .f32⟩
  | 64 => ⟨S80x300x1, .f32⟩
  | 65 => ⟨S80x300, .f32⟩
  | 66 => ⟨S80x300x1, .f32⟩
  | 67 => ⟨S80x300, .f32⟩
  | 68 => ⟨S80x300, .f32⟩
  | 69 => ⟨S_, .f32⟩
  | 70 => ⟨S80x300, .f32⟩
  | 71 => ⟨S80x300, .f32⟩
  | 72 => ⟨S80x300, .f32⟩
  | 73 => ⟨S80x300x2, .f32⟩
  | 74 => ⟨S80x300x1x2, .f32⟩
  | 75 => ⟨S80x300x2, .f32⟩
  | 76 => ⟨S80x1x300x2, .f32⟩
  | 77 => ⟨S80x300x300x2, .f32⟩
  | 78 => ⟨S80x300x300x2, .f32⟩
  | 79 => ⟨S80x300x300x2, .f32⟩
  | 80 => ⟨S80x300x2, .f32⟩
  | 81 => ⟨S80x300x1x2, .f32⟩
  | 82 => ⟨S80x300x2, .f32⟩
  | 83 => ⟨S80x1x300x2, .f32⟩
  | 84 => ⟨S80x300x300x2, .f32⟩
  | 85 => ⟨S80x300x300x2, .f32⟩
  | 86 => ⟨S80x300x300x2, .f32⟩
  | 87 => ⟨S80x300x300x2, .f32⟩
  | 88 => ⟨S_, .f32⟩
  | 89 => ⟨S80x300x300x2, .f32⟩
  | 90 => ⟨S80x300x300x2, .f32⟩
  | 91 => ⟨S_, .f32⟩
  | 92 => ⟨S_, .f32⟩
  | 93 => ⟨S80x300x300x2, .f32⟩
  | 94 => ⟨S80x300x300x2, .f32⟩
  | 95 => ⟨S80x300x300x1, .f32⟩
  | 96 => ⟨S80x300x300, .f32⟩
  | 97 => ⟨S80x300x300x1, .f32⟩
  | 98 => ⟨S80x300x300, .f32⟩
  | 99 => ⟨S80x300x300, .f32⟩
  | 100 => ⟨S80x300x1, .f32⟩
  | 101 => ⟨S80x1x300, .f32⟩
  | 102 => ⟨S80x300x300, .f32⟩
  | 103 => ⟨S80x300x300, .f32⟩
  | 104 => ⟨S80x300x300, .f32⟩
  | 105 => ⟨S80x300x300, .f32⟩
  | 106 => ⟨S_, .f32⟩
  | 107 => ⟨S80x300x300, .f32⟩
  | 108 => ⟨S80x300x300, .f32⟩
  | 109 => ⟨S80x300x300, .f32⟩
  | 110 => ⟨S300, .i32⟩
  | 111 => ⟨S_, .i32⟩
  | 112 => ⟨S_, .i32⟩
  | 113 => ⟨S80x300x300, .f32⟩
  | 114 => ⟨S300, .i32⟩
  | 115 => ⟨S_, .i32⟩
  | 116 => ⟨S_, .i32⟩
  | 117 => ⟨S80x300, .i1⟩
  | 118 => ⟨S_, .i32⟩
  | 119 => ⟨S_, .i1⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S20000x81, .f32⟩

abbrev hbmTy0_2 (i : Nat) : BufTy := match i % 128 with
  | 0 => ⟨S_, .i32⟩
  | 1 => ⟨S_, .i32⟩
  | 2 => ⟨S80x1x300, .f32⟩
  | 3 => ⟨S80x300, .f32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S80x1, .i1⟩
  | 12 => ⟨S_, .f32⟩
  | 13 => ⟨S80x300, .f32⟩
  | 14 => ⟨S80x300, .i1⟩
  | 15 => ⟨S_, .i32⟩
  | 16 => ⟨S300, .i32⟩
  | 17 => ⟨S300, .i1⟩
  | 18 => ⟨S1x300, .i1⟩
  | 19 => ⟨S80x300, .i1⟩
  | 20 => ⟨S80x300, .i1⟩
  | 21 => ⟨S80x300, .i1⟩
  | 22 => ⟨S80x300, .i1⟩
  | 23 => ⟨S80x300, .i1⟩
  | 24 => ⟨S80x300, .i1⟩
  | 25 => ⟨S80x300, .i1⟩
  | 26 => ⟨S_, .i32⟩
  | 27 => ⟨S_, .i32⟩
  | 28 => ⟨S_, .f32⟩
  | 29 => ⟨S_, .f32⟩
  | 30 => ⟨S80x300, .f32⟩
  | 31 => ⟨S80x300, .f32⟩
  | 32 => ⟨S80, .i32⟩
  | 33 => ⟨S_, .i32⟩
  | 34 => ⟨S80, .i32⟩
  | 35 => ⟨S80, .i32⟩
  | 36 => ⟨S80x1, .i32⟩
  | 37 => ⟨S80x300, .i32⟩
  | 38 => ⟨S24000x4, .f32⟩
  | 39 => ⟨S24000, .f32⟩
  | 40 => ⟨S24000, .i32⟩
  | 41 => ⟨S100, .f32⟩
  | 42 => ⟨S100, .i32⟩
  | 43 => ⟨S_, .i32⟩
  | 44 => ⟨S100, .i32⟩
  | 45 => ⟨S100, .i1⟩
  | 46 => ⟨S_, .i32⟩
  | 47 => ⟨S100, .i32⟩
  | 48 => ⟨S100, .i32⟩
  | 49 => ⟨S100, .i32⟩
  | 50 => ⟨S100x1, .i32⟩
  | 51 => ⟨S100x4, .f32⟩
  | 52 => ⟨S_, .i32⟩
  | 53 => ⟨S100, .i32⟩
  | 54 => ⟨S100, .i1⟩
  | 55 => ⟨S_, .i32⟩
  | 56 => ⟨S100, .i32⟩
  | 57 => ⟨S100, .i32⟩
  | 58 => ⟨S100, .i32⟩
  | 59 => ⟨S100x1, .i32⟩
  | 60 => ⟨S100, .i32⟩
  | _ => ⟨S20000x81, .f32⟩

abbrev hbmTy (i : Nat) : BufTy := match i / 128 with
  | 0 => hbmTy0_0 i
  | 1 => hbmTy0_1 i
  | 2 => hbmTy0_2 i
  | _ => ⟨S20000x81, .f32⟩

abbrev bufTy : (tb : Table) → Fin (tcTables nBuf tb) → BufTy
  | .hbm, ⟨i, _⟩ => hbmTy i
  | _, _ => ⟨S20000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_10 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_11 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_12 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_13 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_14 : Ref sig .tc := ⟨.hbm, 109, rfl⟩
abbrev main_cst_15 : Ref sig .tc := ⟨.hbm, 110, rfl⟩
abbrev main_call0_v0 : Ref sig .tc := ⟨.hbm, 111, rfl⟩
abbrev main_call0_v1 : Ref sig .tc := ⟨.hbm, 112, rfl⟩
abbrev main_call0_v2 : Ref sig .tc := ⟨.hbm, 113, rfl⟩
abbrev main_call0_v3 : Ref sig .tc := ⟨.hbm, 114, rfl⟩
abbrev main_call0_v4 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_16 : Ref sig .tc := ⟨.hbm, 119, rfl⟩
abbrev main_cst_17 : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_call1_v3 : Ref sig .tc := ⟨.hbm, 124, rfl⟩
abbrev main_call1_v4 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_18 : Ref sig .tc := ⟨.hbm, 129, rfl⟩
abbrev main_cst_19 : Ref sig .tc := ⟨.hbm, 130, rfl⟩
abbrev main_call2_v0 : Ref sig .tc := ⟨.hbm, 131, rfl⟩
abbrev main_call2_v1 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_20 : Ref sig .tc := ⟨.hbm, 139, rfl⟩
abbrev main_cst_21 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_values : Ref sig .tc := ⟨.hbm, 156, rfl⟩
abbrev main_indices : Ref sig .tc := ⟨.hbm, 157, rfl⟩
abbrev main_v110 : Ref sig .tc := ⟨.hbm, 158, rfl⟩
abbrev main_call4_c : Ref sig .tc := ⟨.hbm, 159, rfl⟩
abbrev main_call4_v0 : Ref sig .tc := ⟨.hbm, 160, rfl⟩
abbrev main_call4_v1 : Ref sig .tc := ⟨.hbm, 161, rfl⟩
abbrev main_call4_c_0 : Ref sig .tc := ⟨.hbm, 162, rfl⟩
abbrev main_call4_v2 : Ref sig .tc := ⟨.hbm, 163, rfl⟩
abbrev main_call4_v3 : Ref sig .tc := ⟨.hbm, 164, rfl⟩
abbrev main_call4_v4 : Ref sig .tc := ⟨.hbm, 165, rfl⟩
abbrev main_call4_c_1 : Ref sig .tc := ⟨.hbm, 166, rfl⟩
abbrev main_call4_c_2 : Ref sig .tc := ⟨.hbm, 167, rfl⟩
abbrev main_call4_v5 : Ref sig .tc := ⟨.hbm, 168, rfl⟩
abbrev main_call4_v6 : Ref sig .tc := ⟨.hbm, 169, rfl⟩
abbrev main_call4_v7 : Ref sig .tc := ⟨.hbm, 170, rfl⟩
abbrev main_call4_v8 : Ref sig .tc := ⟨.hbm, 171, rfl⟩
abbrev main_call4_v9 : Ref sig .tc := ⟨.hbm, 172, rfl⟩
abbrev main_call4_v10 : Ref sig .tc := ⟨.hbm, 173, rfl⟩
abbrev main_call4_c_3 : Ref sig .tc := ⟨.hbm, 174, rfl⟩
abbrev main_call4_v11 : Ref sig .tc := ⟨.hbm, 175, rfl⟩
abbrev main_call4_v12 : Ref sig .tc := ⟨.hbm, 176, rfl⟩
abbrev main_call4_v13 : Ref sig .tc := ⟨.hbm, 177, rfl⟩
abbrev main_call4_cst : Ref sig .tc := ⟨.hbm, 178, rfl⟩
abbrev main_call4_v14 : Ref sig .tc := ⟨.hbm, 179, rfl⟩
abbrev main_v111 : Ref sig .tc := ⟨.hbm, 180, rfl⟩
abbrev main_cst_22 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_cst_23 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_cst_24 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_cst_25 : Ref sig .tc := ⟨.hbm, 216, rfl⟩
abbrev main_v144 : Ref sig .tc := ⟨.hbm, 217, rfl⟩
abbrev main_v145 : Ref sig .tc := ⟨.hbm, 218, rfl⟩
abbrev main_cst_26 : Ref sig .tc := ⟨.hbm, 219, rfl⟩
abbrev main_call5_v0 : Ref sig .tc := ⟨.hbm, 220, rfl⟩
abbrev main_call5_v1 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_cst_27 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_c : Ref sig .tc := ⟨.hbm, 239, rfl⟩
abbrev main_c_28 : Ref sig .tc := ⟨.hbm, 240, rfl⟩
abbrev main_v162_0 : Ref sig .tc := ⟨.hbm, 241, rfl⟩
abbrev main_v162_1 : Ref sig .tc := ⟨.hbm, 242, rfl⟩
abbrev main_v162_2 : Ref sig .tc := ⟨.hbm, 243, rfl⟩
abbrev main_v162_3 : Ref sig .tc := ⟨.hbm, 244, rfl⟩
abbrev main_v162_4 : Ref sig .tc := ⟨.hbm, 245, rfl⟩
abbrev main_while0c_c_41 : Ref sig .tc := ⟨.hbm, 246, rfl⟩
abbrev main_while0c_v186 : Ref sig .tc := ⟨.hbm, 247, rfl⟩
abbrev main_while0b_c_41 : Ref sig .tc := ⟨.hbm, 248, rfl⟩
abbrev main_while0b_v186 : Ref sig .tc := ⟨.hbm, 249, rfl⟩
abbrev main_while0b_call6_c : Ref sig .tc := ⟨.hbm, 250, rfl⟩
abbrev main_while0b_call6_v0 : Ref sig .tc := ⟨.hbm, 251, rfl⟩
abbrev main_while0b_call6_v1 : Ref sig .tc := ⟨.hbm, 252, rfl⟩
abbrev main_while0b_call6_c_0 : Ref sig .tc := ⟨.hbm, 253, rfl⟩
abbrev main_while0b_call6_v2 : Ref sig .tc := ⟨.hbm, 254, rfl⟩
abbrev main_while0b_call6_v3 : Ref sig .tc := ⟨.hbm, 255, rfl⟩
abbrev main_while0b_call6_c_1 : Ref sig .tc := ⟨.hbm, 256, rfl⟩
abbrev main_while0b_call6_c_2 : Ref sig .tc := ⟨.hbm, 257, rfl⟩
abbrev main_while0b_call6_v4 : Ref sig .tc := ⟨.hbm, 258, rfl⟩
abbrev main_while0b_v187 : Ref sig .tc := ⟨.hbm, 259, rfl⟩
abbrev main_while0b_call7_c : Ref sig .tc := ⟨.hbm, 260, rfl⟩
abbrev main_while0b_call7_v0 : Ref sig .tc := ⟨.hbm, 261, rfl⟩
abbrev main_while0b_call7_v1 : Ref sig .tc := ⟨.hbm, 262, rfl⟩
abbrev main_while0b_call7_c_0 : Ref sig .tc := ⟨.hbm, 263, rfl⟩
abbrev main_while0b_call7_v2 : Ref sig .tc := ⟨.hbm, 264, rfl⟩
abbrev main_while0b_call7_v3 : Ref sig .tc := ⟨.hbm, 265, rfl⟩
abbrev main_while0b_call7_c_1 : Ref sig .tc := ⟨.hbm, 266, rfl⟩
abbrev main_while0b_v188 : Ref sig .tc := ⟨.hbm, 267, rfl⟩
abbrev main_while0b_cst_42 : Ref sig .tc := ⟨.hbm, 268, rfl⟩
abbrev main_while0b_v189 : Ref sig .tc := ⟨.hbm, 269, rfl⟩
abbrev main_while0b_v190 : Ref sig .tc := ⟨.hbm, 270, rfl⟩
abbrev main_while0b_v191 : Ref sig .tc := ⟨.hbm, 271, rfl⟩
abbrev main_while0b_v192 : Ref sig .tc := ⟨.hbm, 272, rfl⟩
abbrev main_while0b_v193 : Ref sig .tc := ⟨.hbm, 273, rfl⟩
abbrev main_while0b_v194 : Ref sig .tc := ⟨.hbm, 274, rfl⟩
abbrev main_while0b_v195 : Ref sig .tc := ⟨.hbm, 275, rfl⟩
abbrev main_while0b_v196 : Ref sig .tc := ⟨.hbm, 276, rfl⟩
abbrev main_while0b_v197 : Ref sig .tc := ⟨.hbm, 277, rfl⟩
abbrev main_while0b_v198 : Ref sig .tc := ⟨.hbm, 278, rfl⟩
abbrev main_while0b_v199 : Ref sig .tc := ⟨.hbm, 279, rfl⟩
abbrev main_while0b_v200 : Ref sig .tc := ⟨.hbm, 280, rfl⟩
abbrev main_while0b_v201 : Ref sig .tc := ⟨.hbm, 281, rfl⟩
abbrev main_while0b_c_43 : Ref sig .tc := ⟨.hbm, 282, rfl⟩
abbrev main_while0b_v202 : Ref sig .tc := ⟨.hbm, 283, rfl⟩
abbrev main_cst_29 : Ref sig .tc := ⟨.hbm, 284, rfl⟩
abbrev main_call8_v0 : Ref sig .tc := ⟨.hbm, 285, rfl⟩
abbrev main_call8_v1 : Ref sig .tc := ⟨.hbm, 286, rfl⟩
abbrev main_v163 : Ref sig .tc := ⟨.hbm, 287, rfl⟩
abbrev main_v164 : Ref sig .tc := ⟨.hbm, 288, rfl⟩
abbrev main_c_30 : Ref sig .tc := ⟨.hbm, 289, rfl⟩
abbrev main_v165 : Ref sig .tc := ⟨.hbm, 290, rfl⟩
abbrev main_v166 : Ref sig .tc := ⟨.hbm, 291, rfl⟩
abbrev main_v167 : Ref sig .tc := ⟨.hbm, 292, rfl⟩
abbrev main_v168 : Ref sig .tc := ⟨.hbm, 293, rfl⟩
abbrev main_v169 : Ref sig .tc := ⟨.hbm, 294, rfl⟩
abbrev main_v170 : Ref sig .tc := ⟨.hbm, 295, rfl⟩
abbrev main_v171 : Ref sig .tc := ⟨.hbm, 296, rfl⟩
abbrev main_values_31 : Ref sig .tc := ⟨.hbm, 297, rfl⟩
abbrev main_indices_32 : Ref sig .tc := ⟨.hbm, 298, rfl⟩
abbrev main_c_33 : Ref sig .tc := ⟨.hbm, 299, rfl⟩
abbrev main_v172 : Ref sig .tc := ⟨.hbm, 300, rfl⟩
abbrev main_v173 : Ref sig .tc := ⟨.hbm, 301, rfl⟩
abbrev main_c_34 : Ref sig .tc := ⟨.hbm, 302, rfl⟩
abbrev main_v174 : Ref sig .tc := ⟨.hbm, 303, rfl⟩
abbrev main_v175 : Ref sig .tc := ⟨.hbm, 304, rfl⟩
abbrev main_v176 : Ref sig .tc := ⟨.hbm, 305, rfl⟩
abbrev main_v177 : Ref sig .tc := ⟨.hbm, 306, rfl⟩
abbrev main_v178 : Ref sig .tc := ⟨.hbm, 307, rfl⟩
abbrev main_c_35 : Ref sig .tc := ⟨.hbm, 308, rfl⟩
abbrev main_v179 : Ref sig .tc := ⟨.hbm, 309, rfl⟩
abbrev main_v180 : Ref sig .tc := ⟨.hbm, 310, rfl⟩
abbrev main_c_36 : Ref sig .tc := ⟨.hbm, 311, rfl⟩
abbrev main_v181 : Ref sig .tc := ⟨.hbm, 312, rfl⟩
abbrev main_v182 : Ref sig .tc := ⟨.hbm, 313, rfl⟩
abbrev main_v183 : Ref sig .tc := ⟨.hbm, 314, rfl⟩
abbrev main_v184 : Ref sig .tc := ⟨.hbm, 315, rfl⟩
abbrev main_v185 : Ref sig .tc := ⟨.hbm, 316, rfl⟩

abbrev nD : Nat := 1
abbrev τ : Topo := Topo.v7x

variable {F : FTy → Type} [FloatOps F]

abbrev main_while0_count : Scf.Loop 32 := ⟨0#32, 300#32, 1#32⟩
-- ==== Proof.RefRun.lean ====
/- The reference program run to its end: what its buffers hold after the loop, and the frame. -/
module

public import proofs.«01_k».proof.Defs
public import proofs.«01_k».proof.Proof.Gen.ReferenceIdeal
public import proofs.«01_k».proof.Proof.Gen.ReferenceIdeal.Run
public import Idealize.ShloMosaic.Lib.Quiescent

@[expose] public section

set_option maxRecDepth 100000

noncomputable section

namespace Cert.ReferenceIdeal.Own

open Idealize.ShloMosaic Idealize.ShloMosaic.TcCoe Idealize.ShloMosaic.StableHlo
open Idealize.SL.Sem Cert.ReferenceIdeal Cert.ReferenceIdeal.Gen Cert.ReferenceIdeal.Value

variable {F : FTy → Type} [FloatOps F]
variable (m : (ℓ : Loc nD τ sig) → Buf (Elt F) ℓ)

/-- A buffer that neither the loop's test nor its body writes is at every trip what it was at the entry. -/
theorem atK_keep (c : Dev nD) (r : Ref sig .tc)
    (hc : ∀ V : Valuation τ sig (Elt F), after condOps V (Proc.devRef .tc r) = V (Proc.devRef .tc r))
    (hb : ∀ V : Valuation τ sig (Elt F), afterL bodyI V (Proc.devRef .tc r) = V (Proc.devRef .tc r)) (k : ℕ) :
    atK m k c (Proc.devRef .tc r) = entryContents preI m c (Proc.devRef .tc r) := by
  induction k with
  | zero => rfl
  | succ k ih =>
    exact ((hb _).trans (hc _)).trans ih

theorem fin_arg0 (c : Dev nD) : finalContents condOps preI bodyI postI 300 m c (Proc.devRef .tc main_arg0) = m ((c.tc : Thread nD τ).loc main_arg0) := by
  unfold finalContents
  simp only [postI, afterL_cons, afterL_nil]
  after_reads_simp
  rw [show atTrip condOps bodyI (entryContents preI m) 300 c = atK m 300 c from rfl,
    atK_keep m c main_arg0 (fun V => by after_reads_simp) (fun V => by simp only [bodyI, afterL_cons, afterL_nil]; after_reads_simp)]
  unfold entryContents
  simp only [preI, afterL_cons, afterL_nil]
  after_reads_simp

theorem fin_arg1 (c : Dev nD) : finalContents condOps preI bodyI postI 300 m c (Proc.devRef .tc main_arg1) = m ((c.tc : Thread nD τ).loc main_arg1) := by
  unfold finalContents
  simp only [postI, afterL_cons, afterL_nil]
  after_reads_simp
  rw [show atTrip condOps bodyI (entryContents preI m) 300 c = atK m 300 c from rfl,
    atK_keep m c main_arg1 (fun V => by after_reads_simp) (fun V => by simp only [bodyI, afterL_cons, afterL_nil]; after_reads_simp)]
  unfold entryContents
  simp only [preI, afterL_cons, afterL_nil]
  after_reads_simp

theorem fin_arg2 (c : Dev nD) : finalContents condOps preI bodyI postI 300 m c (Proc.devRef .tc main_arg2) = m ((c.tc : Thread nD τ).loc main_arg2) := by
  unfold finalContents
  simp only [postI, afterL_cons, afterL_nil]
  after_reads_simp
  rw [show atTrip condOps bodyI (entryContents preI m) 300 c = atK m 300 c from rfl,
    atK_keep m c main_arg2 (fun V => by after_reads_simp) (fun V => by simp only [bodyI, afterL_cons, afterL_nil]; after_reads_simp)]
  unfold entryContents
  simp only [preI, afterL_cons, afterL_nil]
  after_reads_simp

/-- The frame of the reference: it ends, its arguments are unchanged, no counter is left raised. -/
theorem frame (ρ : Dev nD → PrngReg) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h c main_arg0 (by decide)).trans (fin_arg0 m c),
    (h c main_arg1 (by decide)).trans (fin_arg1 m c), (h c main_arg2 (by decide)).trans (fin_arg2 m c)⟩,
    sem_eq_zero_of_no_sems (by decide) r.2⟩) (run_fold m ρ)

end Cert.ReferenceIdeal.Own

end
-- ==== Proof.Spec.lean ====
/- The values the kernel and the reference are both compared with: a row's softmax, a decoded and clipped box corner. -/
module

public import Idealize.ShloMosaic.PureOps.Ideal
public import Idealize.ShloMosaic.Lib.IdealHost

@[expose] public section

noncomputable section

namespace Cert.Own

open Idealize.ShloMosaic

/-- The largest entry of a row. -/
def rowMax (x : Fin 81 → EReal) : EReal :=
  (Finset.univ : Finset (Fin 81)).fold max (Ideal.ofBits .f32 0xFF800000#32) x

/-- The softmax of a row of class scores. -/
def smx (x : Fin 81 → EReal) (c : Fin 81) : EReal :=
  Ideal.div (Ideal.exp (x c - rowMax x)) (∑ k, Ideal.exp (x k - rowMax x))

/-- The centre of a decoded box on one axis: `d` the offset, `p` and `q` the proposal's two ends. -/
def ctr (d p q : EReal) : EReal :=
  Ideal.div d (Ideal.ofBits .f32 0x41200000#32) * (q - p) + (p + Ideal.ofBits .f32 0x3F000000#32 * (q - p))

/-- The extent of a decoded box on one axis: `e` the logarithmic scale, capped. -/
def len (e p q : EReal) : EReal :=
  Ideal.exp (min (Ideal.div e (Ideal.ofBits .f32 0x40A00000#32)) (Ideal.ofBits .f32 0x40845349#32)) * (q - p)

/-- A coordinate clipped to the image. -/
def clip (x : EReal) : EReal := min (Ideal.ofBits .f32 0x447FC000#32) (max 0 x)

/-- The lower end of a decoded box on one axis, clipped. -/
def lo (d e p q : EReal) : EReal := clip (ctr d p q - Ideal.ofBits .f32 0x3F000000#32 * len e p q)

/-- The upper end of a decoded box on one axis, clipped. -/
def hi (d e p q : EReal) : EReal := clip (ctr d p q + Ideal.ofBits .f32 0x3F000000#32 * len e p q)

end Cert.Own

end
-- ==== Proof.Dense.lean ====
/- The first call of the kernel, block by block: what it leaves in its five result arrays. -/
module

public import proofs.«01_k».proof.Defs
public import proofs.«01_k».proof.Proof.Spec
public import proofs.«01_k».proof.Proof.Gen.KernelIdeal.Frame
public import Idealize.ShloMosaic.Lib.Pipeline.ValueKit
public import Idealize.ShloMosaic.Lib.Pointwise
public import Idealize.ShloMosaic.Lib.Pointwise.Tactic

@[expose] public section

set_option maxRecDepth 20000

noncomputable section

namespace Cert.KernelIdeal.Own

open Idealize.ShloMosaic Idealize.ShloMosaic.TcCoe Idealize.ShloMosaic.StableHlo
open Idealize.SL.Sem Cert.KernelIdeal Cert.KernelIdeal.Gen Cert.Own

theorem out0_9_apply (x0 : Vec Ideal S2000x81 .f32) (x1 : Vec Ideal S2000x81 .f32) (x2 : Vec Ideal S2000x81 .f32) (x3 : Vec Ideal S2000x81 .f32) (x4 : Vec Ideal S2000x81 .f32) (x5 : Vec Ideal S2000x1 .f32) (x6 : Vec Ideal S2000x1 .f32) (x7 : Vec Ideal S2000x1 .f32) (x8 : Vec Ideal S2000x1 .f32) (r : Fin 2000) (k : Fin 81) :
    (out0_9 (F := Ideal) x0 x1 x2 x3 x4 x5 x6 x7 x8 (ix2 r k) : EReal) = smx (fun l => x0 (ix2 r l)) k := by
  frame_out
  unfold_payloads
  unfold smx rowMax
  pointwise

theorem out0_10_apply (x0 : Vec Ideal S2000x81 .f32) (x1 : Vec Ideal S2000x81 .f32) (x2 : Vec Ideal S2000x81 .f32) (x3 : Vec Ideal S2000x81 .f32) (x4 : Vec Ideal S2000x81 .f32) (x5 : Vec Ideal S2000x1 .f32) (x6 : Vec Ideal S2000x1 .f32) (x7 : Vec Ideal S2000x1 .f32) (x8 : Vec Ideal S2000x1 .f32) (r : Fin 2000) (k : Fin 81) :
    (out0_10 (F := Ideal) x0 x1 x2 x3 x4 x5 x6 x7 x8 (ix2 r k) : EReal)
      = lo (x1 (ix2 r k)) (x3 (ix2 r k)) (x5 (ix2 r 0)) (x7 (ix2 r 0)) := by
  frame_out
  unfold_payloads
  unfold lo clip ctr len
  pointwise

theorem out0_11_apply (x0 : Vec Ideal S2000x81 .f32) (x1 : Vec Ideal S2000x81 .f32) (x2 : Vec Ideal S2000x81 .f32) (x3 : Vec Ideal S2000x81 .f32) (x4 : Vec Ideal S2000x81 .f32) (x5 : Vec Ideal S2000x1 .f32) (x6 : Vec Ideal S2000x1 .f32) (x7 : Vec Ideal S2000x1 .f32) (x8 : Vec Ideal S2000x1 .f32) (r : Fin 2000) (k : Fin 81) :
    (out0_11 (F := Ideal) x0 x1 x2 x3 x4 x5 x6 x7 x8 (ix2 r k) : EReal)
      = lo (x2 (ix2 r k)) (x4 (ix2 r k)) (x6 (ix2 r 0)) (x8 (ix2 r 0)) := by
  frame_out
  unfold_payloads
  unfold lo clip ctr len
  pointwise

theorem out0_12_apply (x0 : Vec Ideal S2000x81 .f32) (x1 : Vec Ideal S2000x81 .f32) (x2 : Vec Ideal S2000x81 .f32) (x3 : Vec Ideal S2000x81 .f32) (x4 : Vec Ideal S2000x81 .f32) (x5 : Vec Ideal S2000x1 .f32) (x6 : Vec Ideal S2000x1 .f32) (x7 : Vec Ideal S2000x1 .f32) (x8 : Vec Ideal S2000x1 .f32) (r : Fin 2000) (k : Fin 81) :
    (out0_12 (F := Ideal) x0 x1 x2 x3 x4 x5 x6 x7 x8 (ix2 r k) : EReal)
      = hi (x1 (ix2 r k)) (x3 (ix2 r k)) (x5 (ix2 r 0)) (x7 (ix2 r 0)) := by
  frame_out
  unfold_payloads
  unfold hi clip ctr len
  pointwise

theorem out0_13_apply (x0 : Vec Ideal S2000x81 .f32) (x1 : Vec Ideal S2000x81 .f32) (x2 : Vec Ideal S2000x81 .f32) (x3 : Vec Ideal S2000x81 .f32) (x4 : Vec Ideal S2000x81 .f32) (x5 : Vec Ideal S2000x1 .f32) (x6 : Vec Ideal S2000x1 .f32) (x7 : Vec Ideal S2000x1 .f32) (x8 : Vec Ideal S2000x1 .f32) (r : Fin 2000) (k : Fin 81) :
    (out0_13 (F := Ideal) x0 x1 x2 x3 x4 x5 x6 x7 x8 (ix2 r k) : EReal)
      = hi (x2 (ix2 r k)) (x4 (ix2 r k)) (x6 (ix2 r 0)) (x8 (ix2 r 0)) := by
  frame_out
  unfold_payloads
  unfold hi clip ctr len
  pointwise

variable (V : (c : Dev nD) → (b : Ref sig .tc) → Buf (Elt Ideal) ((c : Thread nD τ).loc b))

theorem e0_0 : ∀ t, win0_0.index t = ![(grid0.coords t 0).val, 0] := by decide +kernel
theorem e0_1 : ∀ t, win0_1.index t = ![(grid0.coords t 0).val, 0] := by decide +kernel
theorem e0_2 : ∀ t, win0_2.index t = ![(grid0.coords t 0).val, 0] := by decide +kernel
theorem e0_3 : ∀ t, win0_3.index t = ![(grid0.coords t 0).val, 0] := by decide +kernel
theorem e0_4 : ∀ t, win0_4.index t = ![(grid0.coords t 0).val, 0] := by decide +kernel
theorem e0_5 : ∀ t, win0_5.index t = ![(grid0.coords t 0).val, 0] := by decide +kernel
theorem e0_6 : ∀ t, win0_6.index t = ![(grid0.coords t 0).val, 0] := by decide +kernel
theorem e0_7 : ∀ t, win0_7.index t = ![(grid0.coords t 0).val, 0] := by decide +kernel
theorem e0_8 : ∀ t, win0_8.index t = ![(grid0.coords t 0).val, 0] := by decide +kernel
theorem e0_9 : ∀ t, win0_9.index t = ![(grid0.coords t 0).val, 0] := by decide +kernel
theorem e0_10 : ∀ t, win0_10.index t = ![(grid0.coords t 0).val, 0] := by decide +kernel
theorem e0_11 : ∀ t, win0_11.index t = ![(grid0.coords t 0).val, 0] := by decide +kernel
theorem e0_12 : ∀ t, win0_12.index t = ![(grid0.coords t 0).val, 0] := by decide +kernel
theorem e0_13 : ∀ t, win0_13.index t = ![(grid0.coords t 0).val, 0] := by decide +kernel

theorem arr0_9 (c : Dev nD) : (dat0 V c).arrAt 9 cfg0.N
    = (fun i => smx (fun l => (V c main_arg0 : FVec Ideal S20000x81 .f32) (ix2 (i 0) l)) (i 1) : FVec Ideal S20000x81 .f32) := by
  refine (dat0 V c).arrAt_eq_of_covers 9 _ (by decide +kernel) fun t hf y => ?_
  blk_simp
  rw [after0_9, eq_ix2 y]
  refine (out0_9_apply _ _ _ _ _ _ _ _ _ _ _).trans ?_
  congr 1
  · funext l
    blk_ext [iblk0, e0_0, e0_9]
  · apply Fin.ext; blk_simp [e0_9]

theorem arr0_10 (c : Dev nD) : (dat0 V c).arrAt 10 cfg0.N
    = (fun i => lo ((V c main_v2 : FVec Ideal S20000x81 .f32) i) ((V c main_v6 : FVec Ideal S20000x81 .f32) i)
        ((V c main_v9 : FVec Ideal S20000x1 .f32) (ix2 (i 0) 0)) ((V c main_v11 : FVec Ideal S20000x1 .f32) (ix2 (i 0) 0)) : FVec Ideal S20000x81 .f32) := by
  refine (dat0 V c).arrAt_eq_of_covers 10 _ (by decide +kernel) fun t hf y => ?_
  blk_simp
  rw [after0_10, eq_ix2 y]
  refine (out0_10_apply _ _ _ _ _ _ _ _ _ _ _).trans ?_
  congr 1 <;> blk_ext [iblk0, e0_0, e0_1, e0_2, e0_3, e0_4, e0_5, e0_6, e0_7, e0_8, e0_9, e0_10, e0_11, e0_12, e0_13]

theorem arr0_11 (c : Dev nD) : (dat0 V c).arrAt 11 cfg0.N
    = (fun i => lo ((V c main_v4 : FVec Ideal S20000x81 .f32) i) ((V c main_v8 : FVec Ideal S20000x81 .f32) i)
        ((V c main_v10 : FVec Ideal S20000x1 .f32) (ix2 (i 0) 0)) ((V c main_v12 : FVec Ideal S20000x1 .f32) (ix2 (i 0) 0)) : FVec Ideal S20000x81 .f32) := by
  refine (dat0 V c).arrAt_eq_of_covers 11 _ (by decide +kernel) fun t hf y => ?_
  blk_simp
  rw [after0_11, eq_ix2 y]
  refine (out0_11_apply _ _ _ _ _ _ _ _ _ _ _).trans ?_
  congr 1 <;> blk_ext [iblk0, e0_0, e0_1, e0_2, e0_3, e0_4, e0_5, e0_6, e0_7, e0_8, e0_9, e0_10, e0_11, e0_12, e0_13]

theorem arr0_12 (c : Dev nD) : (dat0 V c).arrAt 12 cfg0.N
    = (fun i => hi ((V c main_v2 : FVec Ideal S20000x81 .f32) i) ((V c main_v6 : FVec Ideal S20000x81 .f32) i)
        ((V c main_v9 : FVec Ideal S20000x1 .f32) (ix2 (i 0) 0)) ((V c main_v11 : FVec Ideal S20000x1 .f32) (ix2 (i 0) 0)) : FVec Ideal S20000x81 .f32) := by
  refine (dat0 V c).arrAt_eq_of_covers 12 _ (by decide +kernel) fun t hf y => ?_
  blk_simp
  rw [after0_12, eq_ix2 y]
  refine (out0_12_apply _ _ _ _ _ _ _ _ _ _ _).trans ?_
  congr 1 <;> blk_ext [iblk0, e0_0, e0_1, e0_2, e0_3, e0_4, e0_5, e0_6, e0_7, e0_8, e0_9, e0_10, e0_11, e0_12, e0_13]

theorem arr0_13 (c : Dev nD) : (dat0 V c).arrAt 13 cfg0.N
    = (fun i => hi ((V c main_v4 : FVec Ideal S20000x81 .f32) i) ((V c main_v8 : FVec Ideal S20000x81 .f32) i)
        ((V c main_v10 : FVec Ideal S20000x1 .f32) (ix2 (i 0) 0)) ((V c main_v12 : FVec Ideal S20000x1 .f32) (ix2 (i 0) 0)) : FVec Ideal S20000x81 .f32) := by
  refine (dat0 V c).arrAt_eq_of_covers 13 _ (by decide +kernel) fun t hf y => ?_
  blk_simp
  rw [after0_13, eq_ix2 y]
  refine (out0_13_apply _ _ _ _ _ _ _ _ _ _ _).trans ?_
  congr 1 <;> blk_ext [iblk0, e0_0, e0_1, e0_2, e0_3, e0_4, e0_5, e0_6, e0_7, e0_8, e0_9, e0_10, e0_11, e0_12, e0_13]

end Cert.KernelIdeal.Own

end
-- ==== Proof.Pick.lean ====
/- The selection of the boxes: each class's 300 best scores and the box corners they name. -/
module

public import Idealize.ShloMosaic.PureOps.Ideal
public import Idealize.ShloMosaic.Lib.IdealHost
public import Idealize.ShloMosaic.Lib.Pointwise

@[expose] public section

noncomputable section

namespace Cert.Own

open Idealize.ShloMosaic

/-- A value for each proposal and class, the background class first. -/
abbrev Mat : Type := FVec Ideal ⟨2, ![20000, 81]⟩ .f32

/-- Class-major, without the background. -/
def trd (A : Mat) : FVec Ideal ⟨2, ![80, 20000]⟩ .f32 := fun i => A (ix2 (i 1) ⟨1 + (i 0).val, by have := (i 0).isLt; change (i 0).val < 80 at this; omega⟩)

/-- Each class's 300 best scores. -/
def vals (A : Mat) : FVec Ideal ⟨2, ![80, 300]⟩ .f32 := (Host.topK ⟨2, ![80, 300]⟩ 1 (FloatOps.cmpfTotal .gt) (trd A)).1

/-- The proposals they belong to. -/
def idxs (A : Mat) : IVec ⟨2, ![80, 300]⟩ 32 := (Host.topK ⟨2, ![80, 300]⟩ 1 (FloatOps.cmpfTotal .gt) (trd A)).2

/-- The start index a gather reads: the index, counted from the end when it is negative. -/
def fixIdx (w : BitVec 32) : BitVec 32 := Scalar.select (IntOp.cmpi .slt w 0#32) (IntOp.addi w 20000#32) w

/-- The entry of a row of 20000 that an index names, the fill value when it names none. -/
def pick (x : Fin 20000 → EReal) (w : BitVec 32) : EReal :=
  Scalar.select (Finset.fold IntOp.andi 1#1 (fun _ : Fin 1 => IntOp.andi (IntOp.cmpi .sge (fixIdx w) 0#32) (IntOp.cmpi .sle (fixIdx w) 19999#32)) Finset.univ)
    (x ⟨min (fixIdx w).toInt.toNat 19999, by omega⟩) (Ideal.ofBits .f32 0x7FC00000#32)

/-- The `k`-th selected box of class `c`, one of its corners' coordinates: `A` the scores, `B` the coordinate. -/
def bx (A B : Mat) (c : Fin 80) (k : Fin 300) : EReal := pick (fun n => trd B (ix2 c n)) (idxs A (ix2 c k))

end Cert.Own

end
-- ==== Proof.Between.lean ====
/- The kernel's operations between its two launches: the selected boxes, and what the second launch is given. -/
module

public import proofs.«01_k».proof.Defs
public import proofs.«01_k».proof.Proof.Pick
public import proofs.«01_k».proof.Proof.Gen.KernelIdeal.Launch
public import Idealize.ShloMosaic.Lib.Pointwise
public import Idealize.ShloMosaic.Lib.Pointwise.Tactic
public import Idealize.ShloMosaic.Lib.StableHlo.ReadAt

@[expose] public section

set_option maxRecDepth 100000

noncomputable section

namespace Cert.KernelIdeal.Own

open Idealize.ShloMosaic Idealize.ShloMosaic.TcCoe Idealize.ShloMosaic.StableHlo
open Idealize.SL.Sem Cert.KernelIdeal Cert.KernelIdeal.Gen Cert.Own

/-- The kernel's gather of one entry of each class's row. -/
theorem gather_row (x : FVec Ideal S80x20000 .f32) (idx : IVec S80x300x1 32) (c : Fin 80) (k : Fin 300) :
    Host.gather gather_S80x20000_S80x300x1_S80x300_n_1_0_0_1_2_11 x idx (ix2 c k)
      = x (ix2 c ⟨min (idx (ix3 c k 0)).toInt.toNat 19999, by omega⟩) := by
  unfold Host.gather
  congr 1
  funext a
  refine Fin.ext ?_
  show gather_S80x20000_S80x300x1_S80x300_n_1_0_0_1_2_11.start (ix2 c k) idx a + gather_S80x20000_S80x300x1_S80x300_n_1_0_0_1_2_11.batchCoord (ix2 c k) a
      + gather_S80x20000_S80x300x1_S80x300_n_1_0_0_1_2_11.offCoord (ix2 c k) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S80x20000_S80x300x1_S80x300_n_1_0_0_1_2_11.operandBatchingDims from List.mem_singleton.mpr rfl)]
    rfl
  · rw [GatherDims.batchCoord_eq_zero _ _ _ (fun h => by simp [gather_S80x20000_S80x300x1_S80x300_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S80x20000_S80x300x1_S80x300_n_1_0_0_1_2_11.startIndexMap from List.mem_singleton.mpr rfl)]
    have hsi : gather_S80x20000_S80x300x1_S80x300_n_1_0_0_1_2_11.siIdx (ix2 c k) ⟨List.idxOf (1 : Fin 2) gather_S80x20000_S80x300x1_S80x300_n_1_0_0_1_2_11.startIndexMap,
        List.idxOf_lt_length_iff.2 (List.mem_singleton.mpr rfl)⟩ = ix3 c k 0 := by
      funext b; refine Fin.ext ?_
      match b with
      | ⟨0, _⟩ => rfl
      | ⟨1, _⟩ => rfl
      | ⟨2, _⟩ => rfl
    rw [hsi]
    rfl

/-- A slice without the background, transposed. -/
theorem trd_eq (A : FVec Ideal S20000x81 .f32) :
    transpose S80x20000 [1, 0] (extractStridedSlice S20000x80 ![0, 1] A slices_S20000x81_S20000x80_0_1) transposes_S20000x80_S80x20000_1_0 = trd A := by
  funext i
  unfold trd
  pointwise

variable (V : Valuation τ sig (Elt Ideal))

/-- The contents before the second launch, from those after the first. -/
def K21 : Valuation τ sig (Elt Ideal) :=
  after hostOps1_18 (after hostOps1_17 (after hostOps1_16 (after hostOps1_15 (after hostOps1_14 (after hostOps1_13 (after hostOps1_12 (after hostOps1_11 (after hostOps1_10
  (after hostOps1_9 (after hostOps1_8 (after hostOps1_7 (after hostOps1_6 (after hostOps1_5 (after hostOps1_4 (after hostOps1_3 (after hostOps1_2 (after hostOps1_1 (after hostOps1 V))))))))))))))))))

set_option maxHeartbeats 4000000 in
theorem K21_values : (K21 V (Proc.devRef .tc main_values) : FVec Ideal S80x300 .f32) = vals (V (Proc.devRef .tc main_v13_0)) := by
  unfold K21
  after_reads_simp
  rw [trd_eq]
  rfl

set_option maxHeartbeats 4000000 in
theorem K21_v18 (c : Fin 80) (k : Fin 300) : ((K21 V (Proc.devRef .tc main_v18) : FVec Ideal S80x300 .f32) (ix2 c k) : EReal)
    = bx (V (Proc.devRef .tc main_v13_0)) (V (Proc.devRef .tc main_v13_1)) c k := by
  unfold K21
  after_reads_simp
  simp -implicitDefEqProofs only [TRef.toBuf, TRef.ofBuf, cast_cast, cast_eq]
  clean_types
  rw [trd_eq]
  pointwise
  rw [gather_row, trd_eq]
  rfl

set_option maxHeartbeats 4000000 in
theorem K21_v21 (c : Fin 80) (k : Fin 300) : ((K21 V (Proc.devRef .tc main_v21) : FVec Ideal S80x300 .f32) (ix2 c k) : EReal)
    = bx (V (Proc.devRef .tc main_v13_0)) (V (Proc.devRef .tc main_v13_2)) c k := by
  unfold K21
  after_reads_simp
  simp -implicitDefEqProofs only [TRef.toBuf, TRef.ofBuf, cast_cast, cast_eq]
  clean_types
  rw [trd_eq]
  pointwise
  rw [gather_row, trd_eq]
  rfl

set_option maxHeartbeats 4000000 in
theorem K21_v24 (c : Fin 80) (k : Fin 300) : ((K21 V (Proc.devRef .tc main_v24) : FVec Ideal S80x300 .f32) (ix2 c k) : EReal)
    = bx (V (Proc.devRef .tc main_v13_0)) (V (Proc.devRef .tc main_v13_3)) c k := by
  unfold K21
  after_reads_simp
  simp -implicitDefEqProofs only [TRef.toBuf, TRef.ofBuf, cast_cast, cast_eq]
  clean_types
  rw [trd_eq]
  pointwise
  rw [gather_row, trd_eq]
  rfl

set_option maxHeartbeats 4000000 in
theorem K21_v27 (c : Fin 80) (k : Fin 300) : ((K21 V (Proc.devRef .tc main_v27) : FVec Ideal S80x300 .f32) (ix2 c k) : EReal)
    = bx (V (Proc.devRef .tc main_v13_0)) (V (Proc.devRef .tc main_v13_4)) c k := by
  unfold K21
  after_reads_simp
  simp -implicitDefEqProofs only [TRef.toBuf, TRef.ofBuf, cast_cast, cast_eq]
  clean_types
  rw [trd_eq]
  pointwise
  rw [gather_row, trd_eq]
  rfl

set_option maxHeartbeats 4000000 in
theorem K21_v33 (c : Fin 80) (k : Fin 512) (hk : k.val < 300) : ((K21 V (Proc.devRef .tc main_v33) : FVec Ideal S80x1x512 .f32) (ix3 c 0 k) : EReal)
    = bx (V (Proc.devRef .tc main_v13_0)) (V (Proc.devRef .tc main_v13_1)) c ⟨k.val, hk⟩ := by
  unfold K21
  after_reads_simp
  simp -implicitDefEqProofs only [TRef.toBuf, TRef.ofBuf, cast_cast, cast_eq]
  clean_types
  rw [trd_eq]
  pointwise
  rw [dif_pos hk]
  rw [gather_row, trd_eq]
  rfl

set_option maxHeartbeats 4000000 in
theorem K21_v34 (c : Fin 80) (k : Fin 512) (hk : k.val < 300) : ((K21 V (Proc.devRef .tc main_v34) : FVec Ideal S80x1x512 .f32) (ix3 c 0 k) : EReal)
    = bx (V (Proc.devRef .tc main_v13_0)) (V (Proc.devRef .tc main_v13_2)) c ⟨k.val, hk⟩ := by
  unfold K21
  after_reads_simp
  simp -implicitDefEqProofs only [TRef.toBuf, TRef.ofBuf, cast_cast, cast_eq]
  clean_types
  rw [trd_eq]
  pointwise
  rw [dif_pos hk]
  rw [gather_row, trd_eq]
  rfl

set_option maxHeartbeats 4000000 in
theorem K21_v35 (c : Fin 80) (k : Fin 512) (hk : k.val < 300) : ((K21 V (Proc.devRef .tc main_v35) : FVec Ideal S80x1x512 .f32) (ix3 c 0 k) : EReal)
    = bx (V (Proc.devRef .tc main_v13_0)) (V (Proc.devRef .tc main_v13_3)) c ⟨k.val, hk⟩ := by
  unfold K21
  after_reads_simp
  simp -implicitDefEqProofs only [TRef.toBuf, TRef.ofBuf, cast_cast, cast_eq]
  clean_types
  rw [trd_eq]
  pointwise
  rw [dif_pos hk]
  rw [gather_row, trd_eq]
  rfl

set_option maxHeartbeats 4000000 in
theorem K21_v36 (c : Fin 80) (k : Fin 512) (hk : k.val < 300) : ((K21 V (Proc.devRef .tc main_v36) : FVec Ideal S80x1x512 .f32) (ix3 c 0 k) : EReal)
    = bx (V (Proc.devRef .tc main_v13_0)) (V (Proc.devRef .tc main_v13_4)) c ⟨k.val, hk⟩ := by
  unfold K21
  after_reads_simp
  simp -implicitDefEqProofs only [TRef.toBuf, TRef.ofBuf, cast_cast, cast_eq]
  clean_types
  rw [trd_eq]
  pointwise
  rw [dif_pos hk]
  rw [gather_row, trd_eq]
  rfl

set_option maxHeartbeats 4000000 in
theorem K21_v37 (c : Fin 80) (k : Fin 512) (hk : k.val < 300) : ((K21 V (Proc.devRef .tc main_v37) : FVec Ideal S80x512x1 .f32) (ix3 c k 0) : EReal)
    = bx (V (Proc.devRef .tc main_v13_0)) (V (Proc.devRef .tc main_v13_1)) c ⟨k.val, hk⟩ := by
  unfold K21
  after_reads_simp
  simp -implicitDefEqProofs only [TRef.toBuf, TRef.ofBuf, cast_cast, cast_eq]
  clean_types
  rw [trd_eq]
  pointwise
  rw [dif_pos hk]
  rw [gather_row, trd_eq]
  rfl

set_option maxHeartbeats 4000000 in
theorem K21_v38 (c : Fin 80) (k : Fin 512) (hk : k.val < 300) : ((K21 V (Proc.devRef .tc main_v38) : FVec Ideal S80x512x1 .f32) (ix3 c k 0) : EReal)
    = bx (V (Proc.devRef .tc main_v13_0)) (V (Proc.devRef .tc main_v13_2)) c ⟨k.val, hk⟩ := by
  unfold K21
  after_reads_simp
  simp -implicitDefEqProofs only [TRef.toBuf, TRef.ofBuf, cast_cast, cast_eq]
  clean_types
  rw [trd_eq]
  pointwise
  rw [dif_pos hk]
  rw [gather_row, trd_eq]
  rfl

set_option maxHeartbeats 4000000 in
theorem K21_v39 (c : Fin 80) (k : Fin 512) (hk : k.val < 300) : ((K21 V (Proc.devRef .tc main_v39) : FVec Ideal S80x512x1 .f32) (ix3 c k 0) : EReal)
    = bx (V (Proc.devRef .tc main_v13_0)) (V (Proc.devRef .tc main_v13_3)) c ⟨k.val, hk⟩ := by
  unfold K21
  after_reads_simp
  simp -implicitDefEqProofs only [TRef.toBuf, TRef.ofBuf, cast_cast, cast_eq]
  clean_types
  rw [trd_eq]
  pointwise
  rw [dif_pos hk]
  rw [gather_row, trd_eq]
  rfl

set_option maxHeartbeats 4000000 in
theorem K21_v40 (c : Fin 80) (k : Fin 512) (hk : k.val < 300) : ((K21 V (Proc.devRef .tc main_v40) : FVec Ideal S80x512x1 .f32) (ix3 c k 0) : EReal)
    = bx (V (Proc.devRef .tc main_v13_0)) (V (Proc.devRef .tc main_v13_4)) c ⟨k.val, hk⟩ := by
  unfold K21
  after_reads_simp
  simp -implicitDefEqProofs only [TRef.toBuf, TRef.ofBuf, cast_cast, cast_eq]
  clean_types
  rw [trd_eq]
  pointwise
  rw [dif_pos hk]
  rw [gather_row, trd_eq]
  rfl

set_option maxHeartbeats 4000000 in
theorem K21_v41 (c : Fin 80) (k : Fin 512) (hk : k.val < 300) : ((K21 V (Proc.devRef .tc main_v41) : FVec Ideal S80x1x512 .f32) (ix3 c 0 k) : EReal)
    = vals (V (Proc.devRef .tc main_v13_0)) (ix2 c ⟨k.val, hk⟩) := by
  unfold K21
  after_reads_simp
  simp -implicitDefEqProofs only [TRef.toBuf, TRef.ofBuf, cast_cast, cast_eq]
  clean_types
  rw [trd_eq]
  pointwise
  rw [dif_pos hk]
  rfl

end Cert.KernelIdeal.Own
end
-- ==== Proof.Nms.lean ====
/- Greedy suppression of overlapping boxes, as the kernel and the reference both compute it. -/
module

public import Idealize.ShloMosaic.PureOps.Ideal
public import Idealize.ShloMosaic.Lib.IdealHost
public import Idealize.ShloMosaic.Lib.Exec.Context

@[expose] public section

noncomputable section

namespace Cert.Own

open Idealize.ShloMosaic

/-- The overlap of two boxes on one axis, `p` to `q` and `r` to `s`. -/
def side (p q r s : EReal) : EReal := max 0 (min q s - max p r + 1)

/-- The area of a box with corners `x1 y1 x2 y2`. -/
def area (x1 y1 x2 y2 : EReal) : EReal := (x2 - x1 + 1) * (y2 - y1 + 1)

/-- Intersection over union of two boxes. -/
def iou (p q : Fin 4 → EReal) : EReal :=
  Ideal.div (side (p 0) (p 2) (q 0) (q 2) * side (p 1) (p 3) (q 1) (q 3))
    (area (p 0) (p 1) (p 2) (p 3) + area (q 0) (q 1) (q 2) (q 3)
      - side (p 0) (p 2) (q 0) (q 2) * side (p 1) (p 3) (q 1) (q 3) + Ideal.ofBits .f32 0x3089705F#32)

/-- Box `i` suppresses box `j` if it is kept. -/
def hits (P : Fin 300 → Fin 4 → EReal) (i j : Fin 300) : Prop := Ideal.ofBits .f32 0x3F000000#32 < iou (P i) (P j) ∧ i < j

/-- The boxes kept after the first `n` boxes have suppressed what they overlap: at first, those whose score is over the threshold. -/
def kept (P : Fin 300 → Fin 4 → EReal) (S : Fin 300 → EReal) : ℕ → Fin 300 → Prop
  | 0, j => Ideal.ofBits .f32 0x3D4CCCCD#32 < S j
  | n + 1, j => kept P S n j ∧ ∀ h : n < 300, ¬ (hits P ⟨n, h⟩ j ∧ kept P S n ⟨n, h⟩)

open Classical in
/-- The scores that are left. -/
def left (P : Fin 300 → Fin 4 → EReal) (S : Fin 300 → EReal) (j : Fin 300) : EReal := if kept P S 300 j then S j else 0

/-- A property that holds at the start of a counted loop and is kept by each trip holds at its end. -/
theorem fold_inv {σ : Type} : ∀ (n : ℕ) (g : Fin n → σ → σ) (init : σ) (I : ℕ → σ → Prop), I 0 init
    → (∀ (k : Fin n) (a : σ), I k.val a → I (k.val + 1) (g k a)) → I n ((List.finRange n).foldl (fun acc k => g k acc) init)
  | 0, _, _, _, h0, _ => h0
  | n + 1, g, init, I, h0, hs => by
    rw [List.finRange_succ_last, List.foldl_append, List.foldl_map]
    exact hs (Fin.last n) _ (fold_inv n (fun k => g k.castSucc) init I h0 fun k a => hs k.castSucc a)

end Cert.Own

end
-- ==== Proof.NmsKernel.lean ====
/- The second call of the kernel: what its body leaves for one class. -/
module

public import proofs.«01_k».proof.Defs
public import proofs.«01_k».proof.Proof.Nms
public import proofs.«01_k».proof.Proof.Gen.KernelIdeal.Frame
public import Idealize.ShloMosaic.Lib.Pipeline.ValueKit
public import Idealize.ShloMosaic.Lib.Pointwise
public import Idealize.ShloMosaic.Lib.Pointwise.Tactic

@[expose] public section

set_option maxRecDepth 20000

noncomputable section

namespace Cert.KernelIdeal.Own

open Idealize.ShloMosaic Idealize.ShloMosaic.TcCoe Idealize.ShloMosaic.StableHlo
open Idealize.SL.Sem Cert.KernelIdeal Cert.KernelIdeal.Gen Cert.Own

theorem iv_eq (i : ℕ) : Scf.iv 0#32 1#32 i = BitVec.ofNat 32 i := by
  simp [Scf.iv]

/-- The one-hot row of trip `i`. -/
theorem onehot (x i : ℕ) (hx : x < 512) (hi : i < 300) :
    (FloatOps.sitofp (F := Ideal) .f32 (BitVec.setWidth 32 (IntOp.cmpi .eq (BitVec.ofNat 32 x) (Scf.iv 0#32 1#32 i))) : EReal) = if x = i then 1 else 0 := by
  rw [iv_eq]
  by_cases h : x = i
  · subst h
    simp [IntOp.cmpi, FloatOps.sitofp]
  · have : ¬ BitVec.ofNat 32 x = BitVec.ofNat 32 i := fun e => h (by
      have := congrArg BitVec.toNat e
      simp only [BitVec.toNat_ofNat] at this
      omega)
    have hb : (BitVec.ofNat 32 x == BitVec.ofNat 32 i) = false := beq_eq_false_iff_ne.mpr this
    simp [IntOp.cmpi, FloatOps.sitofp, hb, h]

theorem toInt_small (a : ℕ) (h : a < 512) : (BitVec.ofNat 32 a).toInt = a := by
  rw [BitVec.toInt_eq_toNat_of_lt] <;> simp only [BitVec.toNat_ofNat] <;> omega

theorem sgt_iff (j i : ℕ) (hj : j < 512) (hi : i < 300) : IntOp.cmpi .sgt (BitVec.ofNat 32 j) (Scf.iv 0#32 1#32 i) = 1#1 ↔ i < j := by
  rw [iv_eq]
  show BitVec.ofBool (decide ((BitVec.ofNat 32 i).toInt < (BitVec.ofNat 32 j).toInt)) = 1#1 ↔ i < j
  rw [toInt_small i (by omega), toInt_small j hj]
  by_cases h : i < j <;> simp [h]

theorem trip (v1 v3 v5 v7 : FVec Ideal S1x512 .f32) (v9 v11 v13 v15 : FVec Ideal S512x1 .f32) (v24 : FVec Ideal S1x512 .f32) (v27 v28 : FVec Ideal S512x1 .f32)
    (i : Fin k1_t1_loop.trips) (acc : FVec Ideal S1x512 .f32) (j i' : Fin 512) (hi : i'.val = i.val) :
    (k1_pay15 (F := Ideal) v1 v3 v5 v7 v9 v11 v13 v15 v24 v27 v28 i acc (ix2 0 j) : EReal)
      = acc (ix2 0 j) * (1 - Scalar.select (IntOp.andi (BitVec.ofBool (decide (Ideal.ofBits .f32 0x3F000000#32 <
          Ideal.div (side (v9 (ix2 i' 0)) (v13 (ix2 i' 0)) (v1 (ix2 0 j)) (v5 (ix2 0 j)) * side (v11 (ix2 i' 0)) (v15 (ix2 i' 0)) (v3 (ix2 0 j)) (v7 (ix2 0 j)))
            (v27 (ix2 i' 0) * (v28 (ix2 i' 0) + 1) + v24 (ix2 0 j)
              - side (v9 (ix2 i' 0)) (v13 (ix2 i' 0)) (v1 (ix2 0 j)) (v5 (ix2 0 j)) * side (v11 (ix2 i' 0)) (v15 (ix2 i' 0)) (v3 (ix2 0 j)) (v7 (ix2 0 j))
              + Ideal.ofBits .f32 0x3089705F#32))))
          (IntOp.cmpi .sgt (BitVec.ofNat 32 j.val) (Scf.iv 0#32 1#32 i.val))) (acc (ix2 0 i')) 0) := by
  have hlt : i.val < 300 := i.isLt
  unfold k1_pay15 side
  pointwise
  have oh : ∀ x : Fin 512, (FloatOps.sitofp (F := Ideal) .f32 (BitVec.setWidth 32 (IntOp.cmpi .eq (BitVec.ofNat 32 x.val) (Scf.iv 0#32 1#32 i.val))) : EReal)
      = if x = i' then 1 else 0 := fun x => by
    rw [onehot x.val i.val x.isLt hlt]; congr 1; rw [← hi]; exact propext Fin.ext_iff.symm
  simp only [oh, ite_mul, one_mul, zero_mul, Finset.sum_ite_eq', Finset.mem_univ, if_true]
  rw [Finset.sum_const, Finset.card_univ, Fintype.card_fin, one_nsmul]

theorem one_sub_one : (1 : EReal) - 1 = 0 := EReal.sub_self (EReal.coe_ne_top 1) (EReal.coe_ne_bot 1)

open Classical in
/-- A lane's factor in one trip. -/
theorem step_scalar (O H I J : Prop) [Decidable O] (w : BitVec 1) (hw : w = 1#1 ↔ H) :
    ((if J then (1 : EReal) else 0) * (1 - Scalar.select (IntOp.andi (BitVec.ofBool (decide O)) w) (if I then (1 : EReal) else 0) 0))
      = if J ∧ ¬ ((O ∧ H) ∧ I) then 1 else 0 := by
  rcases BitVec.eq_zero_or_eq_one w with rfl | rfl
  · have h : ¬ H := fun h => absurd (hw.mpr h) (by decide)
    simp [h, IntOp.andi, Scalar.select]
  · have h : H := hw.mp rfl
    by_cases hO : O <;> by_cases hI : I <;> simp [h, hO, hI, IntOp.andi, Scalar.select, one_sub_one]

/-- One trip on a lane below 300, the lanes below 300 zero or one. -/
theorem trip_kept (P : Fin 300 → Fin 4 → EReal) (S : Fin 300 → EReal)
    (v1 v3 v5 v7 : FVec Ideal S1x512 .f32) (v9 v11 v13 v15 : FVec Ideal S512x1 .f32) (v24 : FVec Ideal S1x512 .f32) (v27 v28 : FVec Ideal S512x1 .f32)
    (h1 : ∀ (k : Fin 512) (hk : k.val < 300), (v1 (ix2 0 k) : EReal) = P ⟨k.val, hk⟩ 0)
    (h3 : ∀ (k : Fin 512) (hk : k.val < 300), (v3 (ix2 0 k) : EReal) = P ⟨k.val, hk⟩ 1)
    (h5 : ∀ (k : Fin 512) (hk : k.val < 300), (v5 (ix2 0 k) : EReal) = P ⟨k.val, hk⟩ 2)
    (h7 : ∀ (k : Fin 512) (hk : k.val < 300), (v7 (ix2 0 k) : EReal) = P ⟨k.val, hk⟩ 3)
    (h9 : ∀ (k : Fin 512) (hk : k.val < 300), (v9 (ix2 k 0) : EReal) = P ⟨k.val, hk⟩ 0)
    (h11 : ∀ (k : Fin 512) (hk : k.val < 300), (v11 (ix2 k 0) : EReal) = P ⟨k.val, hk⟩ 1)
    (h13 : ∀ (k : Fin 512) (hk : k.val < 300), (v13 (ix2 k 0) : EReal) = P ⟨k.val, hk⟩ 2)
    (h15 : ∀ (k : Fin 512) (hk : k.val < 300), (v15 (ix2 k 0) : EReal) = P ⟨k.val, hk⟩ 3)
    (h24 : ∀ (k : Fin 512) (hk : k.val < 300), (v24 (ix2 0 k) : EReal) = area (P ⟨k.val, hk⟩ 0) (P ⟨k.val, hk⟩ 1) (P ⟨k.val, hk⟩ 2) (P ⟨k.val, hk⟩ 3))
    (h27 : ∀ (k : Fin 512) (hk : k.val < 300), (v27 (ix2 k 0) * (v28 (ix2 k 0) + 1) : EReal) = area (P ⟨k.val, hk⟩ 0) (P ⟨k.val, hk⟩ 1) (P ⟨k.val, hk⟩ 2) (P ⟨k.val, hk⟩ 3))
    (i : Fin k1_t1_loop.trips) (acc : FVec Ideal S1x512 .f32)
    (ha : ∀ (k : Fin 512) (hk : k.val < 300), (acc (ix2 0 k) : EReal) = (open Classical in if kept P S i.val ⟨k.val, hk⟩ then (1 : EReal) else 0))
    (j : Fin 512) (hj : j.val < 300) :
    (k1_pay15 (F := Ideal) v1 v3 v5 v7 v9 v11 v13 v15 v24 v27 v28 i acc (ix2 0 j) : EReal)
      = (open Classical in if kept P S (i.val + 1) ⟨j.val, hj⟩ then (1 : EReal) else 0) := by
  have hlt : i.val < 300 := i.isLt
  rw [trip v1 v3 v5 v7 v9 v11 v13 v15 v24 v27 v28 i acc j ⟨i.val, by omega⟩ rfl]
  rw [ha j hj, ha ⟨i.val, by omega⟩ hlt, h1 j hj, h3 j hj, h5 j hj, h7 j hj, h24 j hj, h9 _ hlt, h11 _ hlt, h13 _ hlt, h15 _ hlt, h27 _ hlt]
  change _ * (1 - Scalar.select (IntOp.andi (BitVec.ofBool (decide (Ideal.ofBits .f32 0x3F000000#32 < iou (P ⟨i.val, hlt⟩) (P ⟨j.val, hj⟩)))) _) _ 0) = _
  rw [step_scalar _ (i.val < j.val) _ _ _ (sgt_iff j.val i.val j.isLt hlt)]
  simp only [kept, hits]
  exact @if_congr _ _ _ (_) (_) _ _ _ _ (and_congr_right fun _ => ⟨fun h _ => h, fun h => h hlt⟩) rfl rfl

/-- The block the body leaves for a class, on its first 300 lanes. -/
theorem out1_apply (P : Fin 300 → Fin 4 → EReal) (S : Fin 300 → EReal) (c : Dev nD) (i : grid1.Coords) (arg1 : Memref sig .tc .vmem S1x1x512 .f32) (harg1 : arg1.IsWhole) (arg2 : Memref sig .tc .vmem S1x1x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x1x512 .f32) (harg9 : arg9.IsWhole) (arg10 : Memref sig .tc .vmem S1x1x512 .f32) (harg10 : arg10.IsWhole)     (x0 : Vec Ideal S1x1x512 .f32) (x1 : Vec Ideal S1x1x512 .f32) (x2 : Vec Ideal S1x1x512 .f32) (x3 : Vec Ideal S1x1x512 .f32) (x4 : Vec Ideal S1x512x1 .f32) (x5 : Vec Ideal S1x512x1 .f32) (x6 : Vec Ideal S1x512x1 .f32) (x7 : Vec Ideal S1x512x1 .f32) (x8 : Vec Ideal S1x1x512 .f32)
    (h0 : ∀ (k : Fin 512) (hk : k.val < 300), (x0 (ix3 0 0 k) : EReal) = P ⟨k.val, hk⟩ 0)
    (h1 : ∀ (k : Fin 512) (hk : k.val < 300), (x1 (ix3 0 0 k) : EReal) = P ⟨k.val, hk⟩ 1)
    (h2 : ∀ (k : Fin 512) (hk : k.val < 300), (x2 (ix3 0 0 k) : EReal) = P ⟨k.val, hk⟩ 2)
    (h3 : ∀ (k : Fin 512) (hk : k.val < 300), (x3 (ix3 0 0 k) : EReal) = P ⟨k.val, hk⟩ 3)
    (h4 : ∀ (k : Fin 512) (hk : k.val < 300), (x4 (ix3 0 k 0) : EReal) = P ⟨k.val, hk⟩ 0)
    (h5 : ∀ (k : Fin 512) (hk : k.val < 300), (x5 (ix3 0 k 0) : EReal) = P ⟨k.val, hk⟩ 1)
    (h6 : ∀ (k : Fin 512) (hk : k.val < 300), (x6 (ix3 0 k 0) : EReal) = P ⟨k.val, hk⟩ 2)
    (h7 : ∀ (k : Fin 512) (hk : k.val < 300), (x7 (ix3 0 k 0) : EReal) = P ⟨k.val, hk⟩ 3)
    (h8 : ∀ (k : Fin 512) (hk : k.val < 300), (x8 (ix3 0 0 k) : EReal) = S ⟨k.val, hk⟩)
    (j : Fin 512) (hj : j.val < 300) :
    (out1_A_9 c i arg1 harg1 arg2 harg2 arg3 harg3 arg4 harg4 arg5 harg5 arg6 harg6 arg7 harg7 arg8 harg8 arg9 harg9 arg10 harg10 x0 x1 x2 x3 x4 x5 x6 x7 x8 (ix3 0 0 j) : EReal)
      = left P S ⟨j.val, hj⟩ := by
  frame_out
  rw [Scf.fold_eq]
  have inv := fold_inv k1_t1_loop.trips (fun (a : Fin k1_t1_loop.trips) a_1 =>
            k1_pay15 (F := Ideal) (k1_pay2 x0) (k1_pay3 x1) (k1_pay4 x2) (k1_pay5 x3) (k1_pay6 x4) (k1_pay7 x5) (k1_pay8 x6)
              (k1_pay9 x7) (k1_pay11 x0 x1 x2 x3) (k1_pay12 x4 x6) (k1_pay13 x5 x7) a a_1)
          (k1_pay14 (k1_pay10 x8))
          (fun n acc => ∀ (k : Fin 512) (hk : k.val < 300), (acc (ix2 0 k) : EReal) = (open Classical in if kept P S n ⟨k.val, hk⟩ then (1 : EReal) else 0))
          (fun k hk => by
            unfold k1_pay14 k1_pay10
            pointwise
            rw [h8 k hk]
            unfold kept
            by_cases h : Ideal.ofBits .f32 0x3D4CCCCD#32 < S ⟨k.val, hk⟩ <;> simp [h, Scalar.select])
          (fun n acc ha k hk => trip_kept P S _ _ _ _ _ _ _ _ _ _ _
            (fun k hk => by unfold k1_pay2; pointwise; exact h0 k hk)
            (fun k hk => by unfold k1_pay3; pointwise; exact h1 k hk)
            (fun k hk => by unfold k1_pay4; pointwise; exact h2 k hk)
            (fun k hk => by unfold k1_pay5; pointwise; exact h3 k hk)
            (fun k hk => by unfold k1_pay6; pointwise; exact h4 k hk)
            (fun k hk => by unfold k1_pay7; pointwise; exact h5 k hk)
            (fun k hk => by unfold k1_pay8; pointwise; exact h6 k hk)
            (fun k hk => by unfold k1_pay9; pointwise; exact h7 k hk)
            (fun k hk => by unfold k1_pay11 k1_pay2 k1_pay3 k1_pay4 k1_pay5 area; pointwise; rw [h0 k hk, h1 k hk, h2 k hk, h3 k hk])
            (fun k hk => by unfold k1_pay12 k1_pay13 k1_pay6 k1_pay7 k1_pay8 k1_pay9 area; pointwise; rw [h4 k hk, h5 k hk, h6 k hk, h7 k hk])
            n acc ha k hk)
  generalize (List.finRange k1_t1_loop.trips).foldl _ _ = acc at inv ⊢
  unfold k1_pay1 k1_pay16 k1_pay10
  pointwise
  have e : (acc (ix2 0 j) : EReal) = (open Classical in if kept P S 300 ⟨j.val, hj⟩ then (1 : EReal) else 0) := inv j hj
  rw [e, h8 j hj]
  unfold left
  split_ifs <;> simp

end Cert.KernelIdeal.Own
end
-- ==== Proof.NmsArr.lean ====
/- The second call of the kernel, class by class: what it leaves in its result array. -/
module

public import proofs.«01_k».proof.Proof.NmsKernel

@[expose] public section

set_option maxRecDepth 20000

noncomputable section

namespace Cert.KernelIdeal.Own

open Idealize.ShloMosaic Idealize.ShloMosaic.TcCoe Idealize.ShloMosaic.StableHlo
open Idealize.SL.Sem Cert.KernelIdeal Cert.KernelIdeal.Gen Cert.Own

variable (V : (c : Dev nD) → (b : Ref sig .tc) → Buf (Elt Ideal) ((c : Thread nD τ).loc b))

theorem e1_0 : ∀ t, win1_0.index t = ![(grid1.coords t 0).val, 0, 0] := by decide +kernel
theorem e1_1 : ∀ t, win1_1.index t = ![(grid1.coords t 0).val, 0, 0] := by decide +kernel
theorem e1_2 : ∀ t, win1_2.index t = ![(grid1.coords t 0).val, 0, 0] := by decide +kernel
theorem e1_3 : ∀ t, win1_3.index t = ![(grid1.coords t 0).val, 0, 0] := by decide +kernel
theorem e1_4 : ∀ t, win1_4.index t = ![(grid1.coords t 0).val, 0, 0] := by decide +kernel
theorem e1_5 : ∀ t, win1_5.index t = ![(grid1.coords t 0).val, 0, 0] := by decide +kernel
theorem e1_6 : ∀ t, win1_6.index t = ![(grid1.coords t 0).val, 0, 0] := by decide +kernel
theorem e1_7 : ∀ t, win1_7.index t = ![(grid1.coords t 0).val, 0, 0] := by decide +kernel
theorem e1_8 : ∀ t, win1_8.index t = ![(grid1.coords t 0).val, 0, 0] := by decide +kernel
theorem e1_9 : ∀ t, win1_9.index t = ![(grid1.coords t 0).val, 0, 0] := by decide +kernel

set_option maxHeartbeats 1000000

theorem blk1_0 (d : Dev nD) (t : Fin cfg1.N) (q : Fin 80) (hq : q.val = (grid1.coords t 0).val) (k : Fin 512) :
    (iblk1 V d 0 t (ix3 0 0 k) : EReal) = (V d main_v33 : FVec Ideal S80x1x512 .f32) (ix3 q 0 k) := by
  blk_ext [iblk1, e1_0, hq]

theorem blk1_1 (d : Dev nD) (t : Fin cfg1.N) (q : Fin 80) (hq : q.val = (grid1.coords t 0).val) (k : Fin 512) :
    (iblk1 V d 1 t (ix3 0 0 k) : EReal) = (V d main_v34 : FVec Ideal S80x1x512 .f32) (ix3 q 0 k) := by
  blk_ext [iblk1, e1_1, hq]

theorem blk1_2 (d : Dev nD) (t : Fin cfg1.N) (q : Fin 80) (hq : q.val = (grid1.coords t 0).val) (k : Fin 512) :
    (iblk1 V d 2 t (ix3 0 0 k) : EReal) = (V d main_v35 : FVec Ideal S80x1x512 .f32) (ix3 q 0 k) := by
  blk_ext [iblk1, e1_2, hq]

theorem blk1_3 (d : Dev nD) (t : Fin cfg1.N) (q : Fin 80) (hq : q.val = (grid1.coords t 0).val) (k : Fin 512) :
    (iblk1 V d 3 t (ix3 0 0 k) : EReal) = (V d main_v36 : FVec Ideal S80x1x512 .f32) (ix3 q 0 k) := by
  blk_ext [iblk1, e1_3, hq]

theorem blk1_4 (d : Dev nD) (t : Fin cfg1.N) (q : Fin 80) (hq : q.val = (grid1.coords t 0).val) (k : Fin 512) :
    (iblk1 V d 4 t (ix3 0 k 0) : EReal) = (V d main_v37 : FVec Ideal S80x512x1 .f32) (ix3 q k 0) := by
  blk_ext [iblk1, e1_4, hq]

theorem blk1_5 (d : Dev nD) (t : Fin cfg1.N) (q : Fin 80) (hq : q.val = (grid1.coords t 0).val) (k : Fin 512) :
    (iblk1 V d 5 t (ix3 0 k 0) : EReal) = (V d main_v38 : FVec Ideal S80x512x1 .f32) (ix3 q k 0) := by
  blk_ext [iblk1, e1_5, hq]

theorem blk1_6 (d : Dev nD) (t : Fin cfg1.N) (q : Fin 80) (hq : q.val = (grid1.coords t 0).val) (k : Fin 512) :
    (iblk1 V d 6 t (ix3 0 k 0) : EReal) = (V d main_v39 : FVec Ideal S80x512x1 .f32) (ix3 q k 0) := by
  blk_ext [iblk1, e1_6, hq]

theorem blk1_7 (d : Dev nD) (t : Fin cfg1.N) (q : Fin 80) (hq : q.val = (grid1.coords t 0).val) (k : Fin 512) :
    (iblk1 V d 7 t (ix3 0 k 0) : EReal) = (V d main_v40 : FVec Ideal S80x512x1 .f32) (ix3 q k 0) := by
  blk_ext [iblk1, e1_7, hq]

theorem blk1_8 (d : Dev nD) (t : Fin cfg1.N) (q : Fin 80) (hq : q.val = (grid1.coords t 0).val) (k : Fin 512) :
    (iblk1 V d 8 t (ix3 0 0 k) : EReal) = (V d main_v41 : FVec Ideal S80x1x512 .f32) (ix3 q 0 k) := by
  blk_ext [iblk1, e1_8, hq]

/-- The result array on the first 300 lanes of each class. -/
theorem arr1_9 (d : Dev nD) (P : Fin 80 → Fin 300 → Fin 4 → EReal) (S : Fin 80 → Fin 300 → EReal)
    (h0 : ∀ (c : Fin 80) (k : Fin 512) (hk : k.val < 300), ((V d main_v33 : FVec Ideal S80x1x512 .f32) (ix3 c 0 k) : EReal) = P c ⟨k.val, hk⟩ 0)
    (h1 : ∀ (c : Fin 80) (k : Fin 512) (hk : k.val < 300), ((V d main_v34 : FVec Ideal S80x1x512 .f32) (ix3 c 0 k) : EReal) = P c ⟨k.val, hk⟩ 1)
    (h2 : ∀ (c : Fin 80) (k : Fin 512) (hk : k.val < 300), ((V d main_v35 : FVec Ideal S80x1x512 .f32) (ix3 c 0 k) : EReal) = P c ⟨k.val, hk⟩ 2)
    (h3 : ∀ (c : Fin 80) (k : Fin 512) (hk : k.val < 300), ((V d main_v36 : FVec Ideal S80x1x512 .f32) (ix3 c 0 k) : EReal) = P c ⟨k.val, hk⟩ 3)
    (h4 : ∀ (c : Fin 80) (k : Fin 512) (hk : k.val < 300), ((V d main_v37 : FVec Ideal S80x512x1 .f32) (ix3 c k 0) : EReal) = P c ⟨k.val, hk⟩ 0)
    (h5 : ∀ (c : Fin 80) (k : Fin 512) (hk : k.val < 300), ((V d main_v38 : FVec Ideal S80x512x1 .f32) (ix3 c k 0) : EReal) = P c ⟨k.val, hk⟩ 1)
    (h6 : ∀ (c : Fin 80) (k : Fin 512) (hk : k.val < 300), ((V d main_v39 : FVec Ideal S80x512x1 .f32) (ix3 c k 0) : EReal) = P c ⟨k.val, hk⟩ 2)
    (h7 : ∀ (c : Fin 80) (k : Fin 512) (hk : k.val < 300), ((V d main_v40 : FVec Ideal S80x512x1 .f32) (ix3 c k 0) : EReal) = P c ⟨k.val, hk⟩ 3)
    (h8 : ∀ (c : Fin 80) (k : Fin 512) (hk : k.val < 300), ((V d main_v41 : FVec Ideal S80x1x512 .f32) (ix3 c 0 k) : EReal) = S c ⟨k.val, hk⟩)
    (c : Fin 80) (k : Fin 512) (hk : k.val < 300) :
    (((dat1 V d).arrAt 9 cfg1.N : FVec Ideal S80x1x512 .f32) (ix3 c 0 k) : EReal) = left (P c) (S c) ⟨k.val, hk⟩ := by
  have key := (dat1 V d).arrAt_forall_of_covers 9 (fun (i : S80x1x512.Idx) (v : EReal) => ∀ h : (i 2).val < 300, v = left (P (i 0)) (S (i 0)) ⟨(i 2).val, h⟩)
    (by decide +kernel) (fun t hf y => ?_) (ix3 c 0 k)
  · exact key hk
  · blk_simp
    rw [after1_9, eq_ix3 y]
    intro h
    have hy0 : y 0 = (0 : Fin 1) := Subsingleton.elim (α := Fin 1) _ _
    have hy1 : y 1 = (0 : Fin 1) := Subsingleton.elim (α := Fin 1) _ _
    have hq : (grid1.coords t 0).val < 80 := (grid1.coords t 0).isLt
    obtain ⟨q, hqv⟩ : ∃ q : Fin 80, q.val = (grid1.coords t 0).val := ⟨⟨_, hq⟩, rfl⟩
    have ec : (win1_9.blk t).view.emb (ix3 (y 0) (y 1) (y 2)) 0 = q := by
      apply Fin.ext; rw [hqv]; blk_simp [e1_9, hy0]; exact Nat.add_zero _
    have el : win1_9.index t 2 * 512 + (ix3 (y 0) (y 1) (y 2) 2).val = (y 2).val := by
      blk_simp [e1_9]
    have hj : (y 2).val < 300 := by rw [← el]; exact h
    have er : (⟨win1_9.index t 2 * 512 + (ix3 (y 0) (y 1) (y 2) 2).val, h⟩ : Fin 300) = ⟨(y 2).val, hj⟩ := Fin.ext el
    refine Eq.trans ?_ (congr (congr (congrArg (fun z => left (P z)) ec.symm) (congrArg S ec.symm)) er.symm)
    unfold outsAt1
    rw [hy0, hy1]
    exact out1_apply (P q) (S q) d _ _ _ _ _ _ _ _ _ _ _ _ _ _ _ _ _ _ _ _ _ _ _ _ _ _ _ _ _ _
      (fun k hk => (blk1_0 V d t q hqv k).trans (h0 q k hk))
      (fun k hk => (blk1_1 V d t q hqv k).trans (h1 q k hk))
      (fun k hk => (blk1_2 V d t q hqv k).trans (h2 q k hk))
      (fun k hk => (blk1_3 V d t q hqv k).trans (h3 q k hk))
      (fun k hk => (blk1_4 V d t q hqv k).trans (h4 q k hk))
      (fun k hk => (blk1_5 V d t q hqv k).trans (h5 q k hk))
      (fun k hk => (blk1_6 V d t q hqv k).trans (h6 q k hk))
      (fun k hk => (blk1_7 V d t q hqv k).trans (h7 q k hk))
      (fun k hk => (blk1_8 V d t q hqv k).trans (h8 q k hk))
      (y 2) hj

end Cert.KernelIdeal.Own
end
-- ==== Proof.Tail.lean ====
/- The last selection, over all classes, as the kernel and the reference both compute it; the kernel's operations after its second call. -/
module

public import proofs.«01_k».proof.Defs
public import proofs.«01_k».proof.Proof.Gen.KernelIdeal.Launch
public import Idealize.ShloMosaic.Lib.Pointwise
public import Idealize.ShloMosaic.Lib.Pointwise.Tactic
public import Idealize.ShloMosaic.Lib.StableHlo.ReadAt

@[expose] public section

set_option maxRecDepth 100000

noncomputable section

namespace Cert.KernelIdeal.Own

open Idealize.ShloMosaic Idealize.ShloMosaic.TcCoe Idealize.ShloMosaic.StableHlo
open Idealize.SL.Sem Cert.KernelIdeal Cert.KernelIdeal.Gen

/-- The 100 best of all the scores that are left. -/
def lastScores (s : FVec Ideal S80x300 .f32) : FVec Ideal S100 .f32 :=
  (Host.topK S100 0 (FloatOps.cmpfTotal .gt) (shapeCast S24000 s shapeCasts_S80x300_S24000) sliceFits_S24000_S100).1

/-- Where they stand among all. -/
def lastPlaces (s : FVec Ideal S80x300 .f32) : IVec S100 32 :=
  (Host.topK S100 0 (FloatOps.cmpfTotal .gt) (shapeCast S24000 s shapeCasts_S80x300_S24000) sliceFits_S24000_S100).2

/-- The start indices the last gathers read: a negative one counts from the end. -/
def lastIdx (s : FVec Ideal S80x300 .f32) : IVec S100x1 32 :=
  broadcastInDim S100x1 ![0] bcast_S100_S100x1_0
    (select (cmpi .slt (lastPlaces s) (broadcastInDim S100 ![] bcast_S_S100 (constantI S_ 32 0#32)))
      (addi (lastPlaces s) (broadcastInDim S100 ![] bcast_S_S100 (constantI S_ 32 24000#32))) (lastPlaces s))

/-- The boxes of the 100 best. -/
def lastBoxes (b : FVec Ideal S80x300x4 .f32) (s : FVec Ideal S80x300 .f32) : FVec Ideal S100x4 .f32 :=
  Host.gather gather_S24000x4_S100x1_S100x4_1_0_n_n_0_1_14 (shapeCast S24000x4 b shapeCasts_S80x300x4_S24000x4) (lastIdx s)

/-- The class numbers, from one. -/
def classes : IVec S80x300 32 :=
  broadcastInDim S80x300 ![0, 1] bcast_S80x1_S80x300_0_1
    (broadcastInDim S80x1 ![0] bcast_S80_S80x1_0 (addi (iotaInDim S80 32 0) (broadcastInDim S80 ![] bcast_S_S80 (constantI S_ 32 1#32))))

/-- The classes of the 100 best. -/
def lastLabels (s : FVec Ideal S80x300 .f32) : IVec S100 32 :=
  Host.gather gather_S24000_S100x1_S100_n_0_n_n_0_1_1 (shapeCast S24000 classes shapeCasts_S80x300_S24000) (lastIdx s)

/-- Two tables of one entry per class and place are equal if they are at each class and place. -/
theorem ext2 (x y : FVec Ideal S80x300 .f32) (h : ∀ (c : Fin 80) (k : Fin 300), (x (ix2 c k) : EReal) = y (ix2 c k)) : x = y := by
  funext i
  have e : i = ix2 (i 0) (i 1) := funext fun a => by match a with | ⟨0, _⟩ => rfl | ⟨1, _⟩ => rfl
  rw [e]
  exact h _ _

/-- Two tables of four entries per class and place are equal if each of the four is. -/
theorem ext4 (x y : FVec Ideal S80x300x4 .f32) (h0 : ∀ (c : Fin 80) (k : Fin 300), (x (ix3 c k 0) : EReal) = y (ix3 c k 0))
    (h1 : ∀ (c : Fin 80) (k : Fin 300), (x (ix3 c k 1) : EReal) = y (ix3 c k 1)) (h2 : ∀ (c : Fin 80) (k : Fin 300), (x (ix3 c k 2) : EReal) = y (ix3 c k 2))
    (h3 : ∀ (c : Fin 80) (k : Fin 300), (x (ix3 c k 3) : EReal) = y (ix3 c k 3)) : x = y := by
  funext i
  have e : i = ix3 (i 0) (i 1) (i 2) := funext fun a => by match a with | ⟨0, _⟩ => rfl | ⟨1, _⟩ => rfl | ⟨2, _⟩ => rfl
  rw [e]
  have key : ∀ (c : Fin 80) (k : Fin 300) (q : Fin 4), (x (ix3 c k q) : EReal) = y (ix3 c k q) := fun c k q => by
    match q with
    | ⟨0, _⟩ => exact h0 c k
    | ⟨1, _⟩ => exact h1 c k
    | ⟨2, _⟩ => exact h2 c k
    | ⟨3, _⟩ => exact h3 c k
  exact key _ _ _

variable (V : Valuation τ sig (Elt Ideal))

theorem K23_v44 (s : FVec Ideal S80x300 .f32)
    (hs : ∀ (c : Fin 80) (k : Fin 300), ((V (Proc.devRef .tc main_v42) : FVec Ideal S80x1x512 .f32) (ix3 c 0 ⟨k.val, by omega⟩) : EReal) = s (ix2 c k)) :
    (after hostOps2 V (Proc.devRef .tc main_v44) : FVec Ideal S80x300 .f32) = s := by
  refine ext2 _ _ fun c k => ?_
  refine Eq.trans ?_ (hs c k)
  after_reads_at

theorem K23_v50 (b : FVec Ideal S80x300x4 .f32)
    (h0 : ∀ (c : Fin 80) (k : Fin 300), ((V (Proc.devRef .tc main_v18) : FVec Ideal S80x300 .f32) (ix2 c k) : EReal) = b (ix3 c k 0))
    (h1 : ∀ (c : Fin 80) (k : Fin 300), ((V (Proc.devRef .tc main_v21) : FVec Ideal S80x300 .f32) (ix2 c k) : EReal) = b (ix3 c k 1))
    (h2 : ∀ (c : Fin 80) (k : Fin 300), ((V (Proc.devRef .tc main_v24) : FVec Ideal S80x300 .f32) (ix2 c k) : EReal) = b (ix3 c k 2))
    (h3 : ∀ (c : Fin 80) (k : Fin 300), ((V (Proc.devRef .tc main_v27) : FVec Ideal S80x300 .f32) (ix2 c k) : EReal) = b (ix3 c k 3)) :
    (after hostOps2 V (Proc.devRef .tc main_v50) : FVec Ideal S80x300x4 .f32) = b := by
  refine ext4 _ _ (fun c k => Eq.trans ?_ (h0 c k)) (fun c k => Eq.trans ?_ (h1 c k)) (fun c k => Eq.trans ?_ (h2 c k)) (fun c k => Eq.trans ?_ (h3 c k)) <;>
  · after_reads_at
    after_reads_simp
    pointwise

theorem K23_values : (after hostOps2 V (Proc.devRef .tc main_values_5) : FVec Ideal S100 .f32)
    = lastScores (after hostOps2 V (Proc.devRef .tc main_v44)) := by
  unfold lastScores
  after_reads_simp
  rfl

theorem K23_boxes : (after hostOps2 V (Proc.devRef .tc main_v64) : FVec Ideal S100x4 .f32)
    = lastBoxes (after hostOps2 V (Proc.devRef .tc main_v50)) (after hostOps2 V (Proc.devRef .tc main_v44)) := by
  unfold lastBoxes lastIdx lastPlaces
  after_reads_simp
  rfl

theorem K23_labels : (after hostOps2 V (Proc.devRef .tc main_v71) : IVec S100 32)
    = lastLabels (after hostOps2 V (Proc.devRef .tc main_v44)) := by
  unfold lastLabels lastIdx lastPlaces classes
  after_reads_simp
  rfl

end Cert.KernelIdeal.Own
end
-- ==== Proof.Meet.lean ====
/- What the kernel and the reference both compute, as functions of the three arguments. -/
module

public import proofs.«01_k».proof.Defs
public import proofs.«01_k».proof.Proof.Spec
public import proofs.«01_k».proof.Proof.Pick
public import proofs.«01_k».proof.Proof.Nms

@[expose] public section

set_option maxRecDepth 100000

noncomputable section

namespace Cert.Own

open Idealize.ShloMosaic

/-- The class scores of all proposals. -/
def scoreMat (x : FVec Ideal ⟨2, ![20000, 81]⟩ .f32) : Mat := fun i => smx (fun l => x (ix2 (i 0) l)) (i 1)

/-- A lower corner's coordinate of all decoded boxes: `d` and `e` the places of the offset and the scale, `p` and `q` those of the proposal's two ends. -/
def loMat (o : FVec Ideal ⟨3, ![20000, 81, 4]⟩ .f32) (b : FVec Ideal ⟨2, ![20000, 4]⟩ .f32) (d e p q : Fin 4) : Mat :=
  fun i => lo (o (ix3 (i 0) (i 1) d)) (o (ix3 (i 0) (i 1) e)) (b (ix2 (i 0) p)) (b (ix2 (i 0) q))

/-- An upper corner's coordinate of all decoded boxes. -/
def hiMat (o : FVec Ideal ⟨3, ![20000, 81, 4]⟩ .f32) (b : FVec Ideal ⟨2, ![20000, 4]⟩ .f32) (d e p q : Fin 4) : Mat :=
  fun i => hi (o (ix3 (i 0) (i 1) d)) (o (ix3 (i 0) (i 1) e)) (b (ix2 (i 0) p)) (b (ix2 (i 0) q))

/-- The four coordinates of all decoded boxes. -/
def cornerMat (o : FVec Ideal ⟨3, ![20000, 81, 4]⟩ .f32) (b : FVec Ideal ⟨2, ![20000, 4]⟩ .f32) : Fin 4 → Mat :=
  ![loMat o b 0 2 0 2, loMat o b 1 3 1 3, hiMat o b 0 2 0 2, hiMat o b 1 3 1 3]

/-- The selected boxes. -/
def boxOf (x : FVec Ideal ⟨2, ![20000, 81]⟩ .f32) (o : FVec Ideal ⟨3, ![20000, 81, 4]⟩ .f32) (b : FVec Ideal ⟨2, ![20000, 4]⟩ .f32)
    (c : Fin 80) (k : Fin 300) (q : Fin 4) : EReal := bx (scoreMat x) (cornerMat o b q) c k

/-- Their scores. -/
def bestOf (x : FVec Ideal ⟨2, ![20000, 81]⟩ .f32) (c : Fin 80) (k : Fin 300) : EReal := vals (scoreMat x) (ix2 c k)

/-- The selected boxes as a table. -/
def boxTable (x : FVec Ideal ⟨2, ![20000, 81]⟩ .f32) (o : FVec Ideal ⟨3, ![20000, 81, 4]⟩ .f32) (b : FVec Ideal ⟨2, ![20000, 4]⟩ .f32) :
    FVec Ideal ⟨3, ![80, 300, 4]⟩ .f32 := fun i => boxOf x o b (i 0) (i 1) (i 2)

/-- The scores left after suppression as a table. -/
def leftTable (x : FVec Ideal ⟨2, ![20000, 81]⟩ .f32) (o : FVec Ideal ⟨3, ![20000, 81, 4]⟩ .f32) (b : FVec Ideal ⟨2, ![20000, 4]⟩ .f32) :
    FVec Ideal ⟨2, ![80, 300]⟩ .f32 := fun i => left (boxOf x o b (i 0)) (bestOf x (i 0)) (i 1)

end Cert.Own

end
-- ==== Proof.KernelValue.lean ====
/- The kernel's results as functions of its arguments. -/
module

public import proofs.«01_k».proof.Defs
public import proofs.«01_k».proof.Proof.Dense
public import proofs.«01_k».proof.Proof.Between
public import proofs.«01_k».proof.Proof.NmsArr
public import proofs.«01_k».proof.Proof.Tail
public import proofs.«01_k».proof.Proof.Meet
public import proofs.«01_k».proof.Proof.Gen.KernelIdeal.Frame
public import Idealize.ShloMosaic.Lib.Pointwise
public import Idealize.ShloMosaic.Lib.Pointwise.Tactic
public import Idealize.ShloMosaic.Lib.StableHlo.ReadAt

@[expose] public section

set_option maxRecDepth 100000

noncomputable section

namespace Cert.KernelIdeal.Own

open Idealize.ShloMosaic Idealize.ShloMosaic.TcCoe Idealize.ShloMosaic.StableHlo
open Idealize.SL.Sem Cert.KernelIdeal Cert.KernelIdeal.Gen Cert.Own

/-- The offsets as the kernel reads them: class-major blocks of four. -/
abbrev off (x : FVec Ideal S20000x324 .f32) : FVec Ideal S20000x81x4 .f32 := shapeCast S20000x81x4 x shapeCasts_S20000x324_S20000x81x4

variable (V : Valuation τ sig (Elt Ideal))

theorem K1_arg0 : after hostOps0 V (Proc.devRef .tc main_arg0) = V (Proc.devRef .tc main_arg0) := by
  after_reads_simp

theorem K1_v2 (n : Fin 20000) (l : Fin 81) : ((after hostOps0 V (Proc.devRef .tc main_v2) : FVec Ideal S20000x81 .f32) (ix2 n l) : EReal)
    = off (V (Proc.devRef .tc main_arg1)) (ix3 n l 0) := by
  after_reads_at

theorem K1_v4 (n : Fin 20000) (l : Fin 81) : ((after hostOps0 V (Proc.devRef .tc main_v4) : FVec Ideal S20000x81 .f32) (ix2 n l) : EReal)
    = off (V (Proc.devRef .tc main_arg1)) (ix3 n l 1) := by
  after_reads_at

theorem K1_v6 (n : Fin 20000) (l : Fin 81) : ((after hostOps0 V (Proc.devRef .tc main_v6) : FVec Ideal S20000x81 .f32) (ix2 n l) : EReal)
    = off (V (Proc.devRef .tc main_arg1)) (ix3 n l 2) := by
  after_reads_at

theorem K1_v8 (n : Fin 20000) (l : Fin 81) : ((after hostOps0 V (Proc.devRef .tc main_v8) : FVec Ideal S20000x81 .f32) (ix2 n l) : EReal)
    = off (V (Proc.devRef .tc main_arg1)) (ix3 n l 3) := by
  after_reads_at

theorem K1_v9 (n : Fin 20000) : ((after hostOps0 V (Proc.devRef .tc main_v9) : FVec Ideal S20000x1 .f32) (ix2 n 0) : EReal)
    = (V (Proc.devRef .tc main_arg2) : FVec Ideal S20000x4 .f32) (ix2 n 0) := by
  after_reads_at

theorem K1_v10 (n : Fin 20000) : ((after hostOps0 V (Proc.devRef .tc main_v10) : FVec Ideal S20000x1 .f32) (ix2 n 0) : EReal)
    = (V (Proc.devRef .tc main_arg2) : FVec Ideal S20000x4 .f32) (ix2 n 1) := by
  after_reads_at

theorem K1_v11 (n : Fin 20000) : ((after hostOps0 V (Proc.devRef .tc main_v11) : FVec Ideal S20000x1 .f32) (ix2 n 0) : EReal)
    = (V (Proc.devRef .tc main_arg2) : FVec Ideal S20000x4 .f32) (ix2 n 2) := by
  after_reads_at

theorem K1_v12 (n : Fin 20000) : ((after hostOps0 V (Proc.devRef .tc main_v12) : FVec Ideal S20000x1 .f32) (ix2 n 0) : EReal)
    = (V (Proc.devRef .tc main_arg2) : FVec Ideal S20000x4 .f32) (ix2 n 3) := by
  after_reads_at

variable (m : (ℓ : Loc nD τ sig) → Buf (Elt Ideal) ℓ) (ρ : Dev nD → PrngReg) (c : Dev nD)

/-- The three arguments. -/
abbrev in0 : FVec Ideal S20000x81 .f32 := m ((c : Thread nD τ).loc main_arg0)
abbrev in1 : FVec Ideal S20000x81x4 .f32 := off (m ((c : Thread nD τ).loc main_arg1))
abbrev in2 : FVec Ideal S20000x4 .f32 := m ((c : Thread nD τ).loc main_arg2)

theorem W2_scores : (W2 m ρ c (Proc.devRef .tc main_v13_0) : FVec Ideal S20000x81 .f32) = scoreMat (in0 m c) := by
  refine (W2_arr m ρ c 9).trans ((arr0_9 (V1 m ρ) c).trans ?_)
  funext i
  unfold scoreMat
  rw [show V1 m ρ c main_arg0 = m ((c : Thread nD τ).loc main_arg0) from (K1_arg0 (W0 m ρ c)).trans rfl]

theorem W2_corner_0 : (W2 m ρ c (Proc.devRef .tc main_v13_1) : FVec Ideal S20000x81 .f32) = cornerMat (in1 m c) (in2 m c) 0 := by
  refine (W2_arr m ρ c 10).trans ((arr0_10 (V1 m ρ) c).trans ?_)
  funext i
  show lo _ _ _ _ = lo _ _ _ _
  have e : i = ix2 (i 0) (i 1) := funext fun a => by match a with | ⟨0, _⟩ => rfl | ⟨1, _⟩ => rfl
  rw [e]
  exact congr (congr (congr (congrArg lo (K1_v2 (W0 m ρ c) _ _)) (K1_v6 (W0 m ρ c) _ _)) (K1_v9 (W0 m ρ c) _)) (K1_v11 (W0 m ρ c) _)

theorem W2_corner_1 : (W2 m ρ c (Proc.devRef .tc main_v13_2) : FVec Ideal S20000x81 .f32) = cornerMat (in1 m c) (in2 m c) 1 := by
  refine (W2_arr m ρ c 11).trans ((arr0_11 (V1 m ρ) c).trans ?_)
  funext i
  show lo _ _ _ _ = lo _ _ _ _
  have e : i = ix2 (i 0) (i 1) := funext fun a => by match a with | ⟨0, _⟩ => rfl | ⟨1, _⟩ => rfl
  rw [e]
  exact congr (congr (congr (congrArg lo (K1_v4 (W0 m ρ c) _ _)) (K1_v8 (W0 m ρ c) _ _)) (K1_v10 (W0 m ρ c) _)) (K1_v12 (W0 m ρ c) _)

theorem W2_corner_2 : (W2 m ρ c (Proc.devRef .tc main_v13_3) : FVec Ideal S20000x81 .f32) = cornerMat (in1 m c) (in2 m c) 2 := by
  refine (W2_arr m ρ c 12).trans ((arr0_12 (V1 m ρ) c).trans ?_)
  funext i
  show hi _ _ _ _ = hi _ _ _ _
  have e : i = ix2 (i 0) (i 1) := funext fun a => by match a with | ⟨0, _⟩ => rfl | ⟨1, _⟩ => rfl
  rw [e]
  exact congr (congr (congr (congrArg hi (K1_v2 (W0 m ρ c) _ _)) (K1_v6 (W0 m ρ c) _ _)) (K1_v9 (W0 m ρ c) _)) (K1_v11 (W0 m ρ c) _)

theorem W2_corner_3 : (W2 m ρ c (Proc.devRef .tc main_v13_4) : FVec Ideal S20000x81 .f32) = cornerMat (in1 m c) (in2 m c) 3 := by
  refine (W2_arr m ρ c 13).trans ((arr0_13 (V1 m ρ) c).trans ?_)
  funext i
  show hi _ _ _ _ = hi _ _ _ _
  have e : i = ix2 (i 0) (i 1) := funext fun a => by match a with | ⟨0, _⟩ => rfl | ⟨1, _⟩ => rfl
  rw [e]
  exact congr (congr (congr (congrArg hi (K1_v4 (W0 m ρ c) _ _)) (K1_v8 (W0 m ρ c) _ _)) (K1_v10 (W0 m ρ c) _)) (K1_v12 (W0 m ρ c) _)

theorem W21_box_0 (k : Fin 80) (l : Fin 300) : ((W21 m ρ c (Proc.devRef .tc main_v18) : FVec Ideal S80x300 .f32) (ix2 k l) : EReal)
    = boxOf (in0 m c) (in1 m c) (in2 m c) k l 0 := by
  refine (K21_v18 (W2 m ρ c) k l).trans ?_
  rw [W2_scores, W2_corner_0]
  rfl

theorem W21_box_1 (k : Fin 80) (l : Fin 300) : ((W21 m ρ c (Proc.devRef .tc main_v21) : FVec Ideal S80x300 .f32) (ix2 k l) : EReal)
    = boxOf (in0 m c) (in1 m c) (in2 m c) k l 1 := by
  refine (K21_v21 (W2 m ρ c) k l).trans ?_
  rw [W2_scores, W2_corner_1]
  rfl

theorem W21_box_2 (k : Fin 80) (l : Fin 300) : ((W21 m ρ c (Proc.devRef .tc main_v24) : FVec Ideal S80x300 .f32) (ix2 k l) : EReal)
    = boxOf (in0 m c) (in1 m c) (in2 m c) k l 2 := by
  refine (K21_v24 (W2 m ρ c) k l).trans ?_
  rw [W2_scores, W2_corner_2]
  rfl

theorem W21_box_3 (k : Fin 80) (l : Fin 300) : ((W21 m ρ c (Proc.devRef .tc main_v27) : FVec Ideal S80x300 .f32) (ix2 k l) : EReal)
    = boxOf (in0 m c) (in1 m c) (in2 m c) k l 3 := by
  refine (K21_v27 (W2 m ρ c) k l).trans ?_
  rw [W2_scores, W2_corner_3]
  rfl

/-- What the second launch leaves for each class and place. -/
theorem W22_left (k : Fin 80) (l : Fin 300) : ((W22 m ρ c (Proc.devRef .tc main_v42) : FVec Ideal S80x1x512 .f32) (ix3 k 0 ⟨l.val, by omega⟩) : EReal)
    = leftTable (in0 m c) (in1 m c) (in2 m c) (ix2 k l) := by
  have key := arr1_9 (V21 m ρ) c (boxOf (in0 m c) (in1 m c) (in2 m c)) (bestOf (in0 m c))
    (fun k l hl => (K21_v33 (W2 m ρ c) k l hl).trans (by rw [W2_scores, W2_corner_0]; rfl))
    (fun k l hl => (K21_v34 (W2 m ρ c) k l hl).trans (by rw [W2_scores, W2_corner_1]; rfl))
    (fun k l hl => (K21_v35 (W2 m ρ c) k l hl).trans (by rw [W2_scores, W2_corner_2]; rfl))
    (fun k l hl => (K21_v36 (W2 m ρ c) k l hl).trans (by rw [W2_scores, W2_corner_3]; rfl))
    (fun k l hl => (K21_v37 (W2 m ρ c) k l hl).trans (by rw [W2_scores, W2_corner_0]; rfl))
    (fun k l hl => (K21_v38 (W2 m ρ c) k l hl).trans (by rw [W2_scores, W2_corner_1]; rfl))
    (fun k l hl => (K21_v39 (W2 m ρ c) k l hl).trans (by rw [W2_scores, W2_corner_2]; rfl))
    (fun k l hl => (K21_v40 (W2 m ρ c) k l hl).trans (by rw [W2_scores, W2_corner_3]; rfl))
    (fun k l hl => (K21_v41 (W2 m ρ c) k l hl).trans (by rw [W2_scores]; rfl))
    k ⟨l.val, by omega⟩ l.isLt
  exact (congrFun (W22_arr m ρ c 9) _).trans key

theorem W23_v44 : (after hostOps2 (W22 m ρ c) (Proc.devRef .tc main_v44) : FVec Ideal S80x300 .f32) = leftTable (in0 m c) (in1 m c) (in2 m c) :=
  K23_v44 _ _ fun k l => W22_left m ρ c k l

theorem W23_v50 : (after hostOps2 (W22 m ρ c) (Proc.devRef .tc main_v50) : FVec Ideal S80x300x4 .f32) = boxTable (in0 m c) (in1 m c) (in2 m c) :=
  K23_v50 _ _ (fun k l => (congrFun (W22_of_ne m ρ c main_v18 (by decide)) _).trans (W21_box_0 m ρ c k l))
    (fun k l => (congrFun (W22_of_ne m ρ c main_v21 (by decide)) _).trans (W21_box_1 m ρ c k l))
    (fun k l => (congrFun (W22_of_ne m ρ c main_v24 (by decide)) _).trans (W21_box_2 m ρ c k l))
    (fun k l => (congrFun (W22_of_ne m ρ c main_v27 (by decide)) _).trans (W21_box_3 m ρ c k l))

/-- The three results. -/
theorem W23_boxes : (W23 m ρ c (Proc.devRef .tc main_v64) : FVec Ideal S100x4 .f32)
    = lastBoxes (boxTable (in0 m c) (in1 m c) (in2 m c)) (leftTable (in0 m c) (in1 m c) (in2 m c)) := by
  refine (K23_boxes (W22 m ρ c)).trans ?_
  rw [W23_v50, W23_v44]

theorem W23_values : (W23 m ρ c (Proc.devRef .tc main_values_5) : FVec Ideal S100 .f32)
    = lastScores (leftTable (in0 m c) (in1 m c) (in2 m c)) := by
  refine (K23_values (W22 m ρ c)).trans ?_
  rw [W23_v44]

theorem W23_labels : (W23 m ρ c (Proc.devRef .tc main_v71) : IVec S100 32)
    = lastLabels (leftTable (in0 m c) (in1 m c) (in2 m c)) := by
  refine (K23_labels (W22 m ρ c)).trans ?_
  rw [W23_v44]

end Cert.KernelIdeal.Own
end
-- ==== Proof.KernelRun.lean ====
/- The kernel run to its end: what its three result buffers hold. -/
module

public import proofs.«01_k».proof.Defs
public import proofs.«01_k».proof.Proof.KernelValue
public import proofs.«01_k».proof.Proof.Gen.KernelIdeal.Frame

@[expose] public section

set_option maxRecDepth 16384

noncomputable section

namespace Cert.KernelIdeal.Own

open Idealize.ShloMosaic Idealize.ShloMosaic.TcCoe Idealize.ShloMosaic.StableHlo
open Idealize.ShloMosaic.Tactic Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Own

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run with its results. -/
theorem run_values : θ_run (defs (F := Ideal)) (onTc (τ := τ) (main (F := Ideal))) ⟨m, fun _ => 0, ρ⟩ (fun r => ∀ c : Dev nD,
      r.2.mem ((c.tc : Thread nD τ).loc main_v64) = lastBoxes (boxTable (in0 m c) (in1 m c) (in2 m c)) (leftTable (in0 m c) (in1 m c) (in2 m c))
      ∧ r.2.mem ((c.tc : Thread nD τ).loc main_values_5) = lastScores (leftTable (in0 m c) (in1 m c) (in2 m c))
      ∧ r.2.mem ((c.tc : Thread nD τ).loc main_v71) = lastLabels (leftTable (in0 m c) (in1 m c) (in2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h hz c =>
      ⟨(h c _ (mem_uc main_v64 (by decide))).trans (W23_boxes m ρ c),
       (h c _ (mem_uc main_values_5 (by decide))).trans (W23_values m ρ c),
       (h c _ (mem_uc main_v71 (by decide))).trans (W23_labels m ρ c),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c)⟩)

end Cert.KernelIdeal.Own

end
-- ==== Proof.RefDense.lean ====
/- The reference's operations before its first selection: what they leave as class scores and as box corners. -/
module

public import proofs.«01_k».proof.Defs
public import proofs.«01_k».proof.Proof.Spec
public import proofs.«01_k».proof.Proof.Gen.ReferenceIdeal.Run
public import Idealize.ShloMosaic.Lib.Pointwise
public import Idealize.ShloMosaic.Lib.Pointwise.Tactic
public import Idealize.ShloMosaic.Lib.StableHlo.ReadAt

@[expose] public section

set_option maxRecDepth 100000

noncomputable section

namespace Cert.ReferenceIdeal.Own

open Idealize.ShloMosaic Idealize.ShloMosaic.TcCoe Idealize.ShloMosaic.StableHlo
open Idealize.SL.Sem Cert.ReferenceIdeal Cert.ReferenceIdeal.Gen Cert.Own

variable (V : Valuation τ sig (Elt Ideal))

/-- The contents after the operations up to the last clip. -/
def D8 : Valuation τ sig (Elt Ideal) :=
  after hostOps0_7 (after hostOps0_6 (after hostOps0_5 (after hostOps0_4 (after hostOps0_3 (after hostOps0_2 (after hostOps0_1 (after hostOps0 V)))))))

/-- The offsets as the reference reads them: class-major blocks of four. -/
abbrev off (x : FVec Ideal S20000x324 .f32) : FVec Ideal S20000x81x4 .f32 := shapeCast S20000x81x4 x shapeCasts_S20000x324_S20000x81x4

theorem bot_max (x : EReal) : max (Ideal.ofBits .f32 0xFF800000#32) x = x := by
  rw [show Ideal.ofBits .f32 0xFF800000#32 = ⊥ by simp [Ideal.ofBits, Ideal.ieee]]; exact max_eq_right bot_le

theorem zero_bits : Ideal.ofBits .f32 0x00000000#32 = 0 := by simp [Ideal.ofBits, Ideal.ieee]

set_option maxHeartbeats 4000000 in
theorem D8_v10 : (D8 V (Proc.devRef .tc main_v10) : FVec Ideal S20000x81 .f32)
    = fun i => smx (fun l => (V (Proc.devRef .tc main_arg0) : FVec Ideal S20000x81 .f32) (ix2 (i 0) l)) (i 1) := by
  unfold D8
  after_reads_simp
  funext i
  unfold smx rowMax
  pointwise
  simp only [bot_max]

set_option maxHeartbeats 4000000 in
theorem D8_v91 : (D8 V (Proc.devRef .tc main_v91) : FVec Ideal S20000x81 .f32)
    = fun i => lo (off (V (Proc.devRef .tc main_arg1)) (ix3 (i 0) (i 1) 0)) (off (V (Proc.devRef .tc main_arg1)) (ix3 (i 0) (i 1) 2))
        ((V (Proc.devRef .tc main_arg2) : FVec Ideal S20000x4 .f32) (ix2 (i 0) 0)) ((V (Proc.devRef .tc main_arg2) : FVec Ideal S20000x4 .f32) (ix2 (i 0) 2)) := by
  funext i
  unfold D8 lo clip ctr len
  after_reads_at
  after_reads_simp
  pointwise
  exact congrArg₂ min rfl (congrArg₂ max zero_bits rfl)

set_option maxHeartbeats 4000000 in
theorem D8_v94 : (D8 V (Proc.devRef .tc main_v94) : FVec Ideal S20000x81 .f32)
    = fun i => lo (off (V (Proc.devRef .tc main_arg1)) (ix3 (i 0) (i 1) 1)) (off (V (Proc.devRef .tc main_arg1)) (ix3 (i 0) (i 1) 3))
        ((V (Proc.devRef .tc main_arg2) : FVec Ideal S20000x4 .f32) (ix2 (i 0) 1)) ((V (Proc.devRef .tc main_arg2) : FVec Ideal S20000x4 .f32) (ix2 (i 0) 3)) := by
  funext i
  unfold D8 lo clip ctr len
  after_reads_at
  after_reads_simp
  pointwise
  exact congrArg₂ min rfl (congrArg₂ max zero_bits rfl)

set_option maxHeartbeats 4000000 in
theorem D8_v97 : (D8 V (Proc.devRef .tc main_v97) : FVec Ideal S20000x81 .f32)
    = fun i => hi (off (V (Proc.devRef .tc main_arg1)) (ix3 (i 0) (i 1) 0)) (off (V (Proc.devRef .tc main_arg1)) (ix3 (i 0) (i 1) 2))
        ((V (Proc.devRef .tc main_arg2) : FVec Ideal S20000x4 .f32) (ix2 (i 0) 0)) ((V (Proc.devRef .tc main_arg2) : FVec Ideal S20000x4 .f32) (ix2 (i 0) 2)) := by
  funext i
  unfold D8 hi clip ctr len
  after_reads_at
  after_reads_simp
  pointwise
  exact congrArg₂ min rfl (congrArg₂ max zero_bits rfl)

set_option maxHeartbeats 4000000 in
theorem D8_v100 : (D8 V (Proc.devRef .tc main_v100) : FVec Ideal S20000x81 .f32)
    = fun i => hi (off (V (Proc.devRef .tc main_arg1)) (ix3 (i 0) (i 1) 1)) (off (V (Proc.devRef .tc main_arg1)) (ix3 (i 0) (i 1) 3))
        ((V (Proc.devRef .tc main_arg2) : FVec Ideal S20000x4 .f32) (ix2 (i 0) 1)) ((V (Proc.devRef .tc main_arg2) : FVec Ideal S20000x4 .f32) (ix2 (i 0) 3)) := by
  funext i
  unfold D8 hi clip ctr len
  after_reads_at
  after_reads_simp
  pointwise
  exact congrArg₂ min rfl (congrArg₂ max zero_bits rfl)

end Cert.ReferenceIdeal.Own
end
-- ==== Proof.RefPick.lean ====
/- The reference's operations from the class scores and box corners to the selected boxes. -/
module

public import proofs.«01_k».proof.Defs
public import proofs.«01_k».proof.Proof.Pick
public import proofs.«01_k».proof.Proof.Gen.ReferenceIdeal.Run
public import Idealize.ShloMosaic.Lib.Pointwise
public import Idealize.ShloMosaic.Lib.Pointwise.Tactic
public import Idealize.ShloMosaic.Lib.StableHlo.ReadAt

@[expose] public section

set_option maxRecDepth 100000

noncomputable section

namespace Cert.ReferenceIdeal.Own

open Idealize.ShloMosaic Idealize.ShloMosaic.TcCoe Idealize.ShloMosaic.StableHlo
open Idealize.SL.Sem Cert.ReferenceIdeal Cert.ReferenceIdeal.Gen Cert.Own

/-- The reference's gather of one row of four from each class's table. -/
theorem gather_box (x : FVec Ideal S80x20000x4 .f32) (idx : IVec S80x300x1 32) (c : Fin 80) (k : Fin 300) (q : Fin 4) :
    Host.gather gather_S80x20000x4_S80x300x1_S80x300x4_2_1_0_0_1_2_114 x idx (ix3 c k q)
      = x (ix3 c ⟨min (idx (ix3 c k 0)).toInt.toNat 19999, by omega⟩ q) := by
  unfold Host.gather
  congr 1
  funext a
  refine Fin.ext ?_
  show gather_S80x20000x4_S80x300x1_S80x300x4_2_1_0_0_1_2_114.start (ix3 c k q) idx a + gather_S80x20000x4_S80x300x1_S80x300x4_2_1_0_0_1_2_114.batchCoord (ix3 c k q) a
      + gather_S80x20000x4_S80x300x1_S80x300x4_2_1_0_0_1_2_114.offCoord (ix3 c k q) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S80x20000x4_S80x300x1_S80x300x4_2_1_0_0_1_2_114.operandBatchingDims from List.mem_singleton.mpr rfl)]
    rfl
  · rw [GatherDims.batchCoord_eq_zero _ _ _ (fun h => by simp [gather_S80x20000x4_S80x300x1_S80x300x4_2_1_0_0_1_2_114] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S80x20000x4_S80x300x1_S80x300x4_2_1_0_0_1_2_114.startIndexMap from List.mem_singleton.mpr rfl)]
    have hsi : gather_S80x20000x4_S80x300x1_S80x300x4_2_1_0_0_1_2_114.siIdx (ix3 c k q) ⟨List.idxOf (1 : Fin 3) gather_S80x20000x4_S80x300x1_S80x300x4_2_1_0_0_1_2_114.startIndexMap,
        List.idxOf_lt_length_iff.2 (List.mem_singleton.mpr rfl)⟩ = ix3 c k 0 := by
      funext b; refine Fin.ext ?_
      match b with
      | ⟨0, _⟩ => rfl
      | ⟨1, _⟩ => rfl
      | ⟨2, _⟩ => rfl
    rw [hsi]
    rfl
  · rw [GatherDims.batchCoord_eq_zero _ _ _ (fun h => by simp [gather_S80x20000x4_S80x300x1_S80x300x4_2_1_0_0_1_2_114] at h)]
    have hs : gather_S80x20000x4_S80x300x1_S80x300x4_2_1_0_0_1_2_114.start (ix3 c k q) idx 2 = 0 := by
      unfold GatherDims.start
      rw [dif_neg (fun h => by simp [gather_S80x20000x4_S80x300x1_S80x300x4_2_1_0_0_1_2_114] at h)]
    rw [hs]
    simp only [Nat.add_zero, Nat.zero_add]
    rfl

/-- A slice without the background, transposed. -/
theorem trd_eq (A : FVec Ideal S20000x81 .f32) :
    transpose S80x20000 [1, 0] (extractStridedSlice S20000x80 ![0, 1] A slices_S20000x81_S20000x80_0_1) transposes_S20000x80_S80x20000_1_0 = trd A := by
  funext i
  unfold trd
  pointwise

variable (V : Valuation τ sig (Elt Ideal))

/-- The contents after the selection, from those before it. -/
def R9 : Valuation τ sig (Elt Ideal) := after hostOps0_9 (after hostOps0_8 V)

theorem R9_values : (R9 V (Proc.devRef .tc main_values) : FVec Ideal S80x300 .f32) = vals (V (Proc.devRef .tc main_v10)) := by
  unfold R9
  after_reads_simp
  rw [trd_eq]
  rfl

set_option maxHeartbeats 400000

theorem R8_v110 (c : Fin 80) (k : Fin 300) : ((after hostOps0_8 V (Proc.devRef .tc main_v110) : IVec S80x300x1 32) (ix3 c k 0) : BitVec 32)
    = idxs (V (Proc.devRef .tc main_v10)) (ix2 c k) := by
  after_reads_simp
  rw [trd_eq]
  pointwise
  rfl

theorem R9_v111 (c : Fin 80) (k : Fin 300) (q : Fin 4) : ((after hostOps0_9 V (Proc.devRef .tc main_v111) : FVec Ideal S80x300x4 .f32) (ix3 c k q) : EReal)
    = pick (fun n => (V (Proc.devRef .tc main_v107) : FVec Ideal S80x20000x4 .f32) (ix3 c n q)) ((V (Proc.devRef .tc main_v110) : IVec S80x300x1 32) (ix3 c k 0)) := by
  after_reads_simp
  simp -implicitDefEqProofs only [TRef.toBuf, TRef.ofBuf, cast_cast, cast_eq]
  clean_types
  pointwise
  rw [gather_box]
  pointwise
  unfold pick fixIdx
  refine congrArg (fun z => Scalar.select z _ _) (congrArg (fun f => Finset.fold IntOp.andi 1#1 f Finset.univ) (funext fun x => ?_))
  rw [show x = (0 : Fin 1) from Subsingleton.elim _ _]

theorem R8_v107_0 (c : Fin 80) (n : Fin 20000) : ((after hostOps0_8 V (Proc.devRef .tc main_v107) : FVec Ideal S80x20000x4 .f32) (ix3 c n 0) : EReal)
    = trd (V (Proc.devRef .tc main_v91)) (ix2 c n) := by
  unfold trd
  after_reads_at
  after_reads_simp
  pointwise

theorem R9_v111_0 (c : Fin 80) (k : Fin 300) : ((R9 V (Proc.devRef .tc main_v111) : FVec Ideal S80x300x4 .f32) (ix3 c k 0) : EReal)
    = bx (V (Proc.devRef .tc main_v10)) (V (Proc.devRef .tc main_v91)) c k := by
  unfold R9 bx
  rw [R9_v111, R8_v110]
  exact congrArg (fun f => pick f _) (funext fun n => R8_v107_0 V c n)

theorem R8_v107_1 (c : Fin 80) (n : Fin 20000) : ((after hostOps0_8 V (Proc.devRef .tc main_v107) : FVec Ideal S80x20000x4 .f32) (ix3 c n 1) : EReal)
    = trd (V (Proc.devRef .tc main_v94)) (ix2 c n) := by
  unfold trd
  after_reads_at
  after_reads_simp
  pointwise

theorem R9_v111_1 (c : Fin 80) (k : Fin 300) : ((R9 V (Proc.devRef .tc main_v111) : FVec Ideal S80x300x4 .f32) (ix3 c k 1) : EReal)
    = bx (V (Proc.devRef .tc main_v10)) (V (Proc.devRef .tc main_v94)) c k := by
  unfold R9 bx
  rw [R9_v111, R8_v110]
  exact congrArg (fun f => pick f _) (funext fun n => R8_v107_1 V c n)

theorem R8_v107_2 (c : Fin 80) (n : Fin 20000) : ((after hostOps0_8 V (Proc.devRef .tc main_v107) : FVec Ideal S80x20000x4 .f32) (ix3 c n 2) : EReal)
    = trd (V (Proc.devRef .tc main_v97)) (ix2 c n) := by
  unfold trd
  after_reads_at
  after_reads_simp
  pointwise

theorem R9_v111_2 (c : Fin 80) (k : Fin 300) : ((R9 V (Proc.devRef .tc main_v111) : FVec Ideal S80x300x4 .f32) (ix3 c k 2) : EReal)
    = bx (V (Proc.devRef .tc main_v10)) (V (Proc.devRef .tc main_v97)) c k := by
  unfold R9 bx
  rw [R9_v111, R8_v110]
  exact congrArg (fun f => pick f _) (funext fun n => R8_v107_2 V c n)

theorem R8_v107_3 (c : Fin 80) (n : Fin 20000) : ((after hostOps0_8 V (Proc.devRef .tc main_v107) : FVec Ideal S80x20000x4 .f32) (ix3 c n 3) : EReal)
    = trd (V (Proc.devRef .tc main_v100)) (ix2 c n) := by
  unfold trd
  after_reads_at
  after_reads_simp
  pointwise

theorem R9_v111_3 (c : Fin 80) (k : Fin 300) : ((R9 V (Proc.devRef .tc main_v111) : FVec Ideal S80x300x4 .f32) (ix3 c k 3) : EReal)
    = bx (V (Proc.devRef .tc main_v10)) (V (Proc.devRef .tc main_v100)) c k := by
  unfold R9 bx
  rw [R9_v111, R8_v110]
  exact congrArg (fun f => pick f _) (funext fun n => R8_v107_3 V c n)

end Cert.ReferenceIdeal.Own
end
-- ==== Proof.RefIou.lean ====
/- The reference's operations from the selected boxes to the loop over the boxes: the overlaps of each two. -/
module

public import proofs.«01_k».proof.Defs
public import proofs.«01_k».proof.Proof.Nms
public import proofs.«01_k».proof.Proof.Gen.ReferenceIdeal.Run
public import Idealize.ShloMosaic.Lib.Pointwise
public import Idealize.ShloMosaic.Lib.Pointwise.Tactic
public import Idealize.ShloMosaic.Lib.StableHlo.ReadAt

@[expose] public section

set_option maxRecDepth 100000

noncomputable section

namespace Cert.ReferenceIdeal.Own

open Idealize.ShloMosaic Idealize.ShloMosaic.TcCoe Idealize.ShloMosaic.StableHlo
open Idealize.SL.Sem Cert.ReferenceIdeal Cert.ReferenceIdeal.Gen Cert.Own

variable (V : Valuation τ sig (Elt Ideal))

theorem zero_word : Ideal.ofBits .f32 0x00000000#32 = 0 := by simp [Ideal.ofBits, Ideal.ieee]

/-- The two overlaps of each two boxes. -/
theorem R11_v146_0 (c : Fin 80) (i j : Fin 300) : ((after hostOps0_11 (after hostOps0_10 V) (Proc.devRef .tc main_v146) : FVec Ideal S80x300x300x2 .f32) (ix4 c i j 0) : EReal)
    = side ((V (Proc.devRef .tc main_v111) : FVec Ideal S80x300x4 .f32) (ix3 c i 0)) ((V (Proc.devRef .tc main_v111) : FVec Ideal S80x300x4 .f32) (ix3 c i 2))
        ((V (Proc.devRef .tc main_v111) : FVec Ideal S80x300x4 .f32) (ix3 c j 0)) ((V (Proc.devRef .tc main_v111) : FVec Ideal S80x300x4 .f32) (ix3 c j 2)) := by
  unfold side
  after_reads_at
  exact congrArg₂ max zero_word rfl

theorem R11_v146_1 (c : Fin 80) (i j : Fin 300) : ((after hostOps0_11 (after hostOps0_10 V) (Proc.devRef .tc main_v146) : FVec Ideal S80x300x300x2 .f32) (ix4 c i j 1) : EReal)
    = side ((V (Proc.devRef .tc main_v111) : FVec Ideal S80x300x4 .f32) (ix3 c i 1)) ((V (Proc.devRef .tc main_v111) : FVec Ideal S80x300x4 .f32) (ix3 c i 3))
        ((V (Proc.devRef .tc main_v111) : FVec Ideal S80x300x4 .f32) (ix3 c j 1)) ((V (Proc.devRef .tc main_v111) : FVec Ideal S80x300x4 .f32) (ix3 c j 3)) := by
  unfold side
  after_reads_at
  exact congrArg₂ max zero_word rfl

/-- The areas. -/
theorem R11_v128 (c : Fin 80) (i : Fin 300) : ((after hostOps0_11 (after hostOps0_10 V) (Proc.devRef .tc main_v128) : FVec Ideal S80x300 .f32) (ix2 c i) : EReal)
    = area ((V (Proc.devRef .tc main_v111) : FVec Ideal S80x300x4 .f32) (ix3 c i 0)) ((V (Proc.devRef .tc main_v111) : FVec Ideal S80x300x4 .f32) (ix3 c i 1))
        ((V (Proc.devRef .tc main_v111) : FVec Ideal S80x300x4 .f32) (ix3 c i 2)) ((V (Proc.devRef .tc main_v111) : FVec Ideal S80x300x4 .f32) (ix3 c i 3)) := by
  unfold area
  after_reads_at

theorem R12_v162_0 (c : Fin 80) (i j : Fin 300) (s0 s1 a b : EReal)
    (h0 : ((V (Proc.devRef .tc main_v146) : FVec Ideal S80x300x300x2 .f32) (ix4 c i j 0) : EReal) = s0)
    (h1 : ((V (Proc.devRef .tc main_v146) : FVec Ideal S80x300x300x2 .f32) (ix4 c i j 1) : EReal) = s1)
    (ha : ((V (Proc.devRef .tc main_v128) : FVec Ideal S80x300 .f32) (ix2 c i) : EReal) = a)
    (hb : ((V (Proc.devRef .tc main_v128) : FVec Ideal S80x300 .f32) (ix2 c j) : EReal) = b) :
    ((after hostOps0_12 V (Proc.devRef .tc main_v162_0) : FVec Ideal S80x300x300 .f32) (ix3 c i j) : EReal)
    = Ideal.div (s0 * s1) (a + b - s0 * s1 + Ideal.ofBits .f32 0x3089705F#32) := by
  after_reads_at
  simp only [id]
  pointwise
  rw [h0, h1, ha, hb]

/-- The contents before the loop, from those after the selection. -/
def R12 : Valuation τ sig (Elt Ideal) := after hostOps0_12 (after hostOps0_11 (after hostOps0_10 V))

theorem R12_iou (c : Fin 80) (P : Fin 300 → Fin 4 → EReal)
    (h : ∀ k q, ((V (Proc.devRef .tc main_v111) : FVec Ideal S80x300x4 .f32) (ix3 c k q) : EReal) = P k q) (i j : Fin 300) :
    ((R12 V (Proc.devRef .tc main_v162_0) : FVec Ideal S80x300x300 .f32) (ix3 c i j) : EReal) = iou (P i) (P j) := by
  unfold R12 iou
  refine R12_v162_0 _ c i j _ _ _ _ ((R11_v146_0 V c i j).trans ?_) ((R11_v146_1 V c i j).trans ?_) ((R11_v128 V c i).trans ?_) ((R11_v128 V c j).trans ?_)
  all_goals rw [h, h, h, h]

theorem R12_v162_4 (c : Fin 80) (j : Fin 300) : ((R12 V (Proc.devRef .tc main_v162_4) : IVec S80x300 1) (ix2 c j) : BitVec 1)
    = BitVec.ofBool (decide (Ideal.ofBits .f32 0x3D4CCCCD#32 < ((V (Proc.devRef .tc main_values) : FVec Ideal S80x300 .f32) (ix2 c j) : EReal))) := by
  unfold R12
  after_reads_at
  simp only [id]
  pointwise

theorem R12_v162_1 : (R12 V (Proc.devRef .tc main_v162_1) : IVec S300 32) = iotaInDim S300 32 0 := by
  unfold R12
  after_reads_simp
  rfl

theorem R12_v162_2 : (R12 V (Proc.devRef .tc main_v162_2) : IVec S_ 32) = constantI S_ 32 0#32 := by
  unfold R12
  after_reads_simp
  rfl

theorem R12_v162_3 : (R12 V (Proc.devRef .tc main_v162_3) : IVec S_ 32) = constantI S_ 32 0#32 := by
  unfold R12
  after_reads_simp
  rfl

theorem R12_keep {r : Ref sig .tc} (h : r = main_v111 ∨ r = main_values) : R12 V (Proc.devRef .tc r) = V (Proc.devRef .tc r) := by
  unfold R12
  rcases h with rfl | rfl <;> after_reads_simp

end Cert.ReferenceIdeal.Own
end
-- ==== Proof.RefLoop.lean ====
/- The reference's loop over the boxes: which boxes it keeps. -/
module

public import proofs.«01_k».proof.Defs
public import proofs.«01_k».proof.Proof.Nms
public import proofs.«01_k».proof.Proof.RefRun
public import proofs.«01_k».proof.Proof.Gen.ReferenceIdeal.Run
public import Idealize.ShloMosaic.Lib.Pointwise
public import Idealize.ShloMosaic.Lib.Pointwise.Tactic
public import Idealize.ShloMosaic.Lib.DynamicIndex

@[expose] public section

set_option maxRecDepth 100000

noncomputable section

namespace Cert.ReferenceIdeal.Own

open Idealize.ShloMosaic Idealize.ShloMosaic.TcCoe Idealize.ShloMosaic.StableHlo
open Idealize.SL.Sem Cert.ReferenceIdeal Cert.ReferenceIdeal.Gen Cert.ReferenceIdeal.Value Cert.Own

theorem fits_row (n : ℕ) (hn : n < 300) : S80x300x300.Slices ![0, n, 0] S80x1x300 := by
  refine ⟨rfl, fun a => ?_⟩
  match a with
  | ⟨0, _⟩ => show 0 + 80 ≤ 80; omega
  | ⟨1, _⟩ => show n + 1 ≤ 300; omega
  | ⟨2, _⟩ => show 0 + 300 ≤ 300; omega

theorem fits_col (n : ℕ) (hn : n < 300) : S80x300.Slices ![0, n] S80x1 := by
  refine ⟨rfl, fun a => ?_⟩
  match a with
  | ⟨0, _⟩ => show 0 + 80 ≤ 80; omega
  | ⟨1, _⟩ => show n + 1 ≤ 300; omega

variable (V : Valuation τ sig (Elt Ideal))

set_option maxHeartbeats 400000

/-- One trip, box `n` being the one that suppresses. -/
theorem step_apply (n : ℕ) (hn : n < 300) (h1 : (V (Proc.devRef .tc main_v162_1) : IVec S300 32) = iotaInDim S300 32 0)
    (h3 : (V (Proc.devRef .tc main_v162_3) : IVec S_ 32) = constantI S_ 32 (BitVec.ofNat 32 n)) (c : Fin 80) (j : Fin 300) :
    ((step_main_v162_4 (F := Ideal) V : IVec S80x300 1) (ix2 c j) : BitVec 1)
      = IntOp.andi ((V (Proc.devRef .tc main_v162_4) : IVec S80x300 1) (ix2 c j))
          (~~~ (IntOp.andi (IntOp.andi (IntOp.andi
            (BitVec.ofBool (decide (Ideal.ofBits .f32 0x3F000000#32 < ((V (Proc.devRef .tc main_v162_0) : FVec Ideal S80x300x300 .f32) (ix3 c ⟨n, hn⟩ j) : EReal))))
            (IntOp.cmpi .sgt (BitVec.ofNat 32 j.val) (BitVec.ofNat 32 n)))
            ((V (Proc.devRef .tc main_v162_4) : IVec S80x300 1) (ix2 c ⟨n, hn⟩))) ((V (Proc.devRef .tc main_v162_4) : IVec S80x300 1) (ix2 c j)))) := by
  unfold step_main_v162_4
  rw [h1, h3]
  rw [Host.dynamicSlice_eq_extractStridedSlice S80x1x300 _ _ ![0, n, 0] _ (fits_row n hn) (fun a => by
      match a with
      | ⟨0, _⟩ => rfl
      | ⟨1, _⟩ => exact toInt_wrap_ofNat n (by omega)
      | ⟨2, _⟩ => rfl),
    Host.dynamicSlice_eq_extractStridedSlice S80x1 _ _ ![0, n] _ (fits_col n hn) (fun a => by
      match a with
      | ⟨0, _⟩ => rfl
      | ⟨1, _⟩ => exact toInt_wrap_ofNat n (by omega))]
  simp only [id]
  pointwise

theorem toInt_small (a : ℕ) (h : a < 512) : (BitVec.ofNat 32 a).toInt = a := by
  rw [BitVec.toInt_eq_toNat_of_lt] <;> simp only [BitVec.toNat_ofNat] <;> omega

theorem sgt_iff (j i : ℕ) (hj : j < 512) (hi : i < 300) : IntOp.cmpi .sgt (BitVec.ofNat 32 j) (BitVec.ofNat 32 i) = 1#1 ↔ i < j := by
  show BitVec.ofBool (decide ((BitVec.ofNat 32 i).toInt < (BitVec.ofNat 32 j).toInt)) = 1#1 ↔ i < j
  rw [toInt_small i (by omega), toInt_small j hj]
  by_cases h : i < j <;> simp [h]

theorem bit_step (k a b k' : BitVec 1) :
    IntOp.andi k (~~~ (IntOp.andi (IntOp.andi (IntOp.andi a b) k') k)) = 1#1 ↔ k = 1#1 ∧ ¬ ((a = 1#1 ∧ b = 1#1) ∧ k' = 1#1) := by
  revert k a b k'; decide

theorem bit_decide (p : Prop) [Decidable p] : BitVec.ofBool (decide p) = 1#1 ↔ p := by
  by_cases h : p <;> simp [h]

/-- The loop's invariant after `n` trips. -/
theorem loop_kept (P : Fin 80 → Fin 300 → Fin 4 → EReal) (S : Fin 80 → Fin 300 → EReal)
    (h0 : ∀ c i j, ((V (Proc.devRef .tc main_v162_0) : FVec Ideal S80x300x300 .f32) (ix3 c i j) : EReal) = iou (P c i) (P c j))
    (h1 : (V (Proc.devRef .tc main_v162_1) : IVec S300 32) = iotaInDim S300 32 0)
    (h3 : (V (Proc.devRef .tc main_v162_3) : IVec S_ 32) = constantI S_ 32 0#32)
    (h4 : ∀ c j, ((V (Proc.devRef .tc main_v162_4) : IVec S80x300 1) (ix2 c j) : BitVec 1) = BitVec.ofBool (decide (Ideal.ofBits .f32 0x3D4CCCCD#32 < S c j))) :
    ∀ n, n ≤ 300 → (STEP^[n] V) (Proc.devRef .tc main_v162_0) = V (Proc.devRef .tc main_v162_0)
      ∧ (STEP^[n] V) (Proc.devRef .tc main_v162_1) = V (Proc.devRef .tc main_v162_1)
      ∧ ((STEP^[n] V) (Proc.devRef .tc main_v162_3) : IVec S_ 32) = constantI S_ 32 (BitVec.ofNat 32 n)
      ∧ ∀ c j, (((STEP^[n] V) (Proc.devRef .tc main_v162_4) : IVec S80x300 1) (ix2 c j) : BitVec 1) = 1#1 ↔ kept (P c) (S c) n j
  | 0, _ => ⟨rfl, rfl, h3, fun c j => by
      show ((V (Proc.devRef .tc main_v162_4) : IVec S80x300 1) (ix2 c j) : BitVec 1) = 1#1 ↔ _
      rw [h4, bit_decide]; rfl⟩
  | n + 1, hn => by
    obtain ⟨i0, i1, i3, i4⟩ := loop_kept P S h0 h1 h3 h4 n (by omega)
    rw [Function.iterate_succ_apply']
    generalize STEP^[n] V = X at i0 i1 i3 i4 ⊢
    refine ⟨(STEP_main_v162_0 X).trans i0, (STEP_main_v162_1 X).trans i1, ?_, fun c j => ?_⟩
    · rw [STEP_main_v162_3]
      unfold step_main_v162_3
      rw [i3]
      funext i
      show BitVec.ofNat 32 n + 1#32 = BitVec.ofNat 32 (n + 1)
      exact BitVec.ofNat_add_ofNat _ _
    · rw [STEP_main_v162_4, step_apply X n (by omega) (i1.trans h1) i3 c j, bit_step, i4, i4, bit_decide, sgt_iff _ _ (by omega) (by omega), i0, h0]
      exact and_congr_right fun _ => ⟨fun h _ => h, fun h => h (by omega)⟩

end Cert.ReferenceIdeal.Own
end
-- ==== Proof.RefTail.lean ====
/- The reference's operations after its loop. -/
module

public import proofs.«01_k».proof.Defs
public import proofs.«01_k».proof.Proof.Nms
public import proofs.«01_k».proof.Proof.Tail
public import proofs.«01_k».proof.Proof.Gen.ReferenceIdeal.Run
public import Idealize.ShloMosaic.Lib.Pointwise
public import Idealize.ShloMosaic.Lib.Pointwise.Tactic
public import Idealize.ShloMosaic.Lib.StableHlo.ReadAt

@[expose] public section

set_option maxRecDepth 100000

noncomputable section

namespace Cert.ReferenceIdeal.Own

open Idealize.ShloMosaic Idealize.ShloMosaic.TcCoe Idealize.ShloMosaic.StableHlo
open Idealize.SL.Sem Cert.ReferenceIdeal Cert.ReferenceIdeal.Gen Cert.ReferenceIdeal.Value Cert.Own

variable (V : Valuation τ sig (Elt Ideal))

/-- The contents at the end, from those after the loop. -/
def R15 : Valuation τ sig (Elt Ideal) := after hostOps0_15 (after hostOps0_14 (after hostOps0_13 V))

theorem R15_v163 (c : Fin 80) (k : Fin 300) : ((R15 V (Proc.devRef .tc main_v163) : FVec Ideal S80x300 .f32) (ix2 c k) : EReal)
    = Scalar.select ((V (Proc.devRef .tc main_v162_4) : IVec S80x300 1) (ix2 c k)) ((V (Proc.devRef .tc main_values) : FVec Ideal S80x300 .f32) (ix2 c k)) (0 : EReal) := by
  unfold R15
  after_reads_at
  exact congrArg (fun z : EReal => Scalar.select _ _ z) (show Ideal.ofBits .f32 0x00000000#32 = 0 by simp [Ideal.ofBits, Ideal.ieee])

theorem R15_values : (R15 V (Proc.devRef .tc main_values_31) : FVec Ideal S100 .f32)
    = Cert.KernelIdeal.Own.lastScores (R15 V (Proc.devRef .tc main_v163)) := by
  unfold R15 Cert.KernelIdeal.Own.lastScores
  after_reads_simp
  rfl

theorem R15_boxes : (R15 V (Proc.devRef .tc main_v178) : FVec Ideal S100x4 .f32)
    = Cert.KernelIdeal.Own.lastBoxes (V (Proc.devRef .tc main_v111)) (R15 V (Proc.devRef .tc main_v163)) := by
  unfold R15 Cert.KernelIdeal.Own.lastBoxes Cert.KernelIdeal.Own.lastIdx Cert.KernelIdeal.Own.lastPlaces
  after_reads_simp
  rfl

theorem R15_labels : (R15 V (Proc.devRef .tc main_v185) : IVec S100 32)
    = Cert.KernelIdeal.Own.lastLabels (R15 V (Proc.devRef .tc main_v163)) := by
  unfold R15 Cert.KernelIdeal.Own.lastLabels Cert.KernelIdeal.Own.lastIdx Cert.KernelIdeal.Own.lastPlaces Cert.KernelIdeal.Own.classes
  after_reads_simp
  rfl

end Cert.ReferenceIdeal.Own
end
-- ==== Proof.RefValue.lean ====
/- The reference's results as functions of its arguments, and its run with them. -/
module

public import proofs.«01_k».proof.Defs
public import proofs.«01_k».proof.Proof.RefRun
public import proofs.«01_k».proof.Proof.RefDense
public import proofs.«01_k».proof.Proof.RefPick
public import proofs.«01_k».proof.Proof.RefIou
public import proofs.«01_k».proof.Proof.RefLoop
public import proofs.«01_k».proof.Proof.RefTail
public import proofs.«01_k».proof.Proof.Meet

@[expose] public section

set_option maxRecDepth 100000

noncomputable section

namespace Cert.ReferenceIdeal.Own

open Idealize.ShloMosaic Idealize.ShloMosaic.TcCoe Idealize.ShloMosaic.StableHlo
open Idealize.SL.Sem Cert.ReferenceIdeal Cert.ReferenceIdeal.Gen Cert.ReferenceIdeal.Value Cert.Own

variable (m : (ℓ : Loc nD τ sig) → Buf (Elt Ideal) ℓ) (c : Dev nD)

/-- The three arguments. -/
abbrev in0 : FVec Ideal S20000x81 .f32 := m ((c.tc : Thread nD τ).loc main_arg0)
abbrev in1 : FVec Ideal S20000x81x4 .f32 := off (m ((c.tc : Thread nD τ).loc main_arg1))
abbrev in2 : FVec Ideal S20000x4 .f32 := m ((c.tc : Thread nD τ).loc main_arg2)

/-- The contents at launch. -/
abbrev E0 : Valuation τ sig (Elt Ideal) := fun b => m (c, b)

theorem entry_eq : entryContents preI m c = R12 (R9 (D8 (E0 m c))) := by
  unfold entryContents R12 R9 D8
  simp only [preI, afterL_cons, afterL_nil]

/-- The contents before the loop. -/
abbrev E : Valuation τ sig (Elt Ideal) := R12 (R9 (D8 (E0 m c)))

theorem E_values : (E m c (Proc.devRef .tc main_values) : FVec Ideal S80x300 .f32) = vals (scoreMat (in0 m c)) := by
  refine (R12_keep _ (.inr rfl)).trans ((R9_values _).trans ?_)
  rw [D8_v10]
  rfl

theorem R9_box (k : Fin 80) (l : Fin 300) (q : Fin 4) : ((R9 (D8 (E0 m c)) (Proc.devRef .tc main_v111) : FVec Ideal S80x300x4 .f32) (ix3 k l q) : EReal)
    = boxOf (in0 m c) (in1 m c) (in2 m c) k l q := by
  match q with
  | ⟨0, _⟩ => exact (R9_v111_0 _ k l).trans (by rw [D8_v10, D8_v91]; rfl)
  | ⟨1, _⟩ => exact (R9_v111_1 _ k l).trans (by rw [D8_v10, D8_v94]; rfl)
  | ⟨2, _⟩ => exact (R9_v111_2 _ k l).trans (by rw [D8_v10, D8_v97]; rfl)
  | ⟨3, _⟩ => exact (R9_v111_3 _ k l).trans (by rw [D8_v10, D8_v100]; rfl)

theorem E_box : (E m c (Proc.devRef .tc main_v111) : FVec Ideal S80x300x4 .f32) = boxTable (in0 m c) (in1 m c) (in2 m c) := by
  refine (R12_keep _ (.inl rfl)).trans ?_
  exact Cert.KernelIdeal.Own.ext4 _ _ (fun k l => R9_box m c k l 0) (fun k l => R9_box m c k l 1) (fun k l => R9_box m c k l 2) (fun k l => R9_box m c k l 3)

/-- The contents after the loop. -/
abbrev L : Valuation τ sig (Elt Ideal) := after condOps (atK m 300 c)

theorem L_keep : (L m c (Proc.devRef .tc main_values) = E m c (Proc.devRef .tc main_values)) ∧ (L m c (Proc.devRef .tc main_v111) = E m c (Proc.devRef .tc main_v111)) := by
  refine ⟨((show L m c (Proc.devRef .tc main_values) = atK m 300 c (Proc.devRef .tc main_values) by after_reads_simp).trans (atK_keep m c main_values (fun V => by after_reads_simp) (fun V => by simp only [bodyI, afterL_cons, afterL_nil]; after_reads_simp) 300)).trans ?_,
    ((show L m c (Proc.devRef .tc main_v111) = atK m 300 c (Proc.devRef .tc main_v111) by after_reads_simp).trans (atK_keep m c main_v111 (fun V => by after_reads_simp) (fun V => by simp only [bodyI, afterL_cons, afterL_nil]; after_reads_simp) 300)).trans ?_⟩ <;> rw [entry_eq]

theorem L_kept (k : Fin 80) (l : Fin 300) : ((L m c (Proc.devRef .tc main_v162_4) : IVec S80x300 1) (ix2 k l) : BitVec 1) = 1#1
    ↔ kept (boxOf (in0 m c) (in1 m c) (in2 m c) k) (bestOf (in0 m c) k) 300 l := by
  have h := (cond_keeps (atK m 300 c) main_v162_4 (by decide)).trans (atK_agree m c 300 main_v162_4 (by decide))
  rw [entry_eq] at h
  have key := loop_kept (E m c) (boxOf (in0 m c) (in1 m c) (in2 m c)) (bestOf (in0 m c))
    (fun k i j => R12_iou _ k _ (fun l q => R9_box m c k l q) i j) (R12_v162_1 _) (R12_v162_3 _)
    (fun k j => (R12_v162_4 _ k j).trans (by rw [R9_values, D8_v10]; rfl)) 300 (le_refl _)
  rw [show (L m c (Proc.devRef .tc main_v162_4) : IVec S80x300 1) = _ from h]
  exact key.2.2.2 k l

open Classical in
/-- A choice by a bit that decides a proposition. -/
theorem select_left (w : BitVec 1) (p : Prop) (h : w = 1#1 ↔ p) (x : EReal) : Scalar.select w x (0 : EReal) = if p then x else 0 := by
  unfold Scalar.select
  by_cases hp : p
  · rw [if_pos hp]
    exact if_pos (h.mpr hp)
  · rw [if_neg hp]
    exact if_neg fun e => hp (h.mp e)

theorem R15_left : (R15 (L m c) (Proc.devRef .tc main_v163) : FVec Ideal S80x300 .f32) = leftTable (in0 m c) (in1 m c) (in2 m c) := by
  refine Cert.KernelIdeal.Own.ext2 _ _ fun k l => ?_
  refine (R15_v163 _ k l).trans ?_
  rw [(L_keep m c).1, E_values]
  exact select_left _ _ (L_kept m c k l) _

theorem fin_eq : finalContents condOps preI bodyI postI 300 m c = R15 (L m c) := by
  unfold finalContents R15
  simp only [postI, afterL_cons, afterL_nil]

/-- The run with its results. -/
theorem run_values (ρ : Dev nD → PrngReg) : θ_run (defs (F := Ideal)) (onTc (τ := τ) (main (F := Ideal))) ⟨m, fun _ => 0, ρ⟩ (fun r => ∀ c : Dev nD,
      r.2.mem ((c.tc : Thread nD τ).loc main_v178) = Cert.KernelIdeal.Own.lastBoxes (boxTable (in0 m c) (in1 m c) (in2 m c)) (leftTable (in0 m c) (in1 m c) (in2 m c))
      ∧ r.2.mem ((c.tc : Thread nD τ).loc main_values_31) = Cert.KernelIdeal.Own.lastScores (leftTable (in0 m c) (in1 m c) (in2 m c))
      ∧ r.2.mem ((c.tc : Thread nD τ).loc main_v185) = Cert.KernelIdeal.Own.lastLabels (leftTable (in0 m c) (in1 m c) (in2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c main_v178 (by decide)).trans (congrFun (fin_eq m c) _)).trans ((R15_boxes _).trans (by rw [R15_left, (L_keep m c).2, E_box])),
     ((h c main_values_31 (by decide)).trans (congrFun (fin_eq m c) _)).trans ((R15_values _).trans (by rw [R15_left])),
     ((h c main_v185 (by decide)).trans (congrFun (fin_eq m c) _)).trans ((R15_labels _).trans (by rw [R15_left])),
     (h c main_arg0 (by decide)).trans (fin_arg0 m c), (h c main_arg1 (by decide)).trans (fin_arg1 m c), (h c main_arg2 (by decide)).trans (fin_arg2 m c)⟩)
    (run_fold m ρ)

end Cert.ReferenceIdeal.Own

end
-- ==== Proof.lean ====
/- The proof of the claims about the kernel and its reference. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefRun
public import proofs.«01_k».proof.Proof.KernelRun
public import proofs.«01_k».proof.Proof.RefValue
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Own.frame m ρ, trivial,
  fun m g m' g' _ hargs => by
    refine ⟨_, _, _, Cert.KernelIdeal.Own.run_values m g, ?_⟩
    refine (θ_run Cert.ReferenceIdeal.defs _ _).mono (fun r h c => ?_) (Cert.ReferenceIdeal.Own.run_values m' g')
    have e0 : Cert.ReferenceIdeal.Own.in0 m' c = Cert.KernelIdeal.Own.in0 m c := (hargs c).1
    have e1 : Cert.ReferenceIdeal.Own.in1 m' c = Cert.KernelIdeal.Own.in1 m c := congrArg Cert.KernelIdeal.Own.off (hargs c).2.1
    have e2 : Cert.ReferenceIdeal.Own.in2 m' c = Cert.KernelIdeal.Own.in2 m c := (hargs c).2.2
    have hc := h c
    rw [e0, e1, e2] at hc
    exact hc⟩

end Cert.Proof

end
